-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v22_1)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22_1) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S50000x1152 : Shape := ⟨2, ![50000, 1152]⟩
abbrev S50000 : Shape := ⟨1, ![50000]⟩
abbrev S1152x1152 : Shape := ⟨2, ![1152, 1152]⟩
abbrev S1152 : Shape := ⟨1, ![1152]⟩
abbrev S1152x1 : Shape := ⟨2, ![1152, 1]⟩
abbrev S1 : Shape := ⟨1, ![1]⟩
abbrev S1152x3 : Shape := ⟨2, ![1152, 3]⟩
abbrev S3 : Shape := ⟨1, ![3]⟩
abbrev S1152x6 : Shape := ⟨2, ![1152, 6]⟩
abbrev S6 : Shape := ⟨1, ![6]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50000x1152 .f32) (main_arg1 : IVec S50000 32) (main_arg2 : FVec F S1152x1152 .f32) (main_arg3 : FVec F S1152 .f32) (main_arg4 : FVec F S1152x1 .f32) (main_arg5 : FVec F S1 .f32) (main_arg6 : FVec F S1152x1152 .f32) (main_arg7 : FVec F S1152 .f32) (main_arg8 : FVec F S1152x3 .f32) (main_arg9 : FVec F S3 .f32) (main_arg10 : FVec F S1152x1152 .f32) (main_arg11 : FVec F S1152 .f32) (main_arg12 : FVec F S1152x6 .f32) (main_arg13 : FVec F S6 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 512#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  main_v5
-- ==== Kernel.lean ====
abbrev S50000x1152 : Shape := ⟨2, ![50000, 1152]⟩
abbrev S50000 : Shape := ⟨1, ![50000]⟩
abbrev S1152x1152 : Shape := ⟨2, ![1152, 1152]⟩
abbrev S1152 : Shape := ⟨1, ![1152]⟩
abbrev S1152x1 : Shape := ⟨2, ![1152, 1]⟩
abbrev S1 : Shape := ⟨1, ![1]⟩
abbrev S1152x3 : Shape := ⟨2, ![1152, 3]⟩
abbrev S3 : Shape := ⟨1, ![3]⟩
abbrev S1152x6 : Shape := ⟨2, ![1152, 6]⟩
abbrev S6 : Shape := ⟨1, ![6]⟩
abbrev S1152x3456 : Shape := ⟨2, ![1152, 3456]⟩
abbrev S3456 : Shape := ⟨1, ![3456]⟩
abbrev S1x3456 : Shape := ⟨2, ![1, 3456]⟩
abbrev S_ : Shape := ⟨0, ![]⟩
abbrev S3456x16 : Shape := ⟨2, ![3456, 16]⟩
abbrev S2 : Shape := ⟨1, ![2]⟩
abbrev S5 : Shape := ⟨1, ![5]⟩
abbrev S16 : Shape := ⟨1, ![16]⟩
abbrev S1x16 : Shape := ⟨2, ![1, 16]⟩
abbrev S50176x8 : Shape := ⟨2, ![50176, 8]⟩
abbrev S50000x3 : Shape := ⟨2, ![50000, 3]⟩
abbrev S1024x1152 : Shape := ⟨2, ![1024, 1152]⟩
abbrev S1024x8 : Shape := ⟨2, ![1024, 8]⟩
abbrev S1024x3 : Shape := ⟨2, ![1024, 3]⟩
abbrev S1024x3456 : Shape := ⟨2, ![1024, 3456]⟩
abbrev S1024x16 : Shape := ⟨2, ![1024, 16]⟩
abbrev S50176 : Shape := ⟨1, ![50176]⟩
abbrev S401408 : Shape := ⟨1, ![401408]⟩
abbrev S32x4096 : Shape := ⟨2, ![32, 4096]⟩
abbrev S1568 : Shape := ⟨1, ![1568]⟩
abbrev S12544 : Shape := ⟨1, ![12544]⟩
abbrev S65536 : Shape := ⟨1, ![65536]⟩
abbrev S4096 : Shape := ⟨1, ![4096]⟩
abbrev S1x4096 : Shape := ⟨2, ![1, 4096]⟩
abbrev S512x8 : Shape := ⟨2, ![512, 8]⟩
abbrev S512x1 : Shape := ⟨2, ![512, 1]⟩
abbrev S512 : Shape := ⟨1, ![512]⟩
abbrev S512x6 : Shape := ⟨2, ![512, 6]⟩

abbrev nBuf : Table → Nat
  | .hbm => 57
  | .local .tc .vmem => 12
  | .local .scVector .vmem => 4
  | _ => 0

abbrev bufTy : (tb : Table) → Fin (nBuf tb) → BufTy
  | .hbm, ⟨0, _⟩ => ⟨S50000x1152, .f32⟩
  | .hbm, ⟨1, _⟩ => ⟨S50000, .i32⟩
  | .hbm, ⟨2, _⟩ => ⟨S1152x1152, .f32⟩
  | .hbm, ⟨3, _⟩ => ⟨S1152, .f32⟩
  | .hbm, ⟨4, _⟩ => ⟨S1152x1, .f32⟩
  | .hbm, ⟨5, _⟩ => ⟨S1, .f32⟩
  | .hbm, ⟨6, _⟩ => ⟨S1152x1152, .f32⟩
  | .hbm, ⟨7, _⟩ => ⟨S1152, .f32⟩
  | .hbm, ⟨8, _⟩ => ⟨S1152x3, .f32⟩
  | .hbm, ⟨9, _⟩ => ⟨S3, .f32⟩
  | .hbm, ⟨10, _⟩ => ⟨S1152x1152, .f32⟩
  | .hbm, ⟨11, _⟩ => ⟨S1152, .f32⟩
  | .hbm, ⟨12, _⟩ => ⟨S1152x6, .f32⟩
  | .hbm, ⟨13, _⟩ => ⟨S6, .f32⟩
  | .hbm, ⟨14, _⟩ => ⟨S1152x3456, .f32⟩
  | .hbm, ⟨15, _⟩ => ⟨S1152x3456, .bf16⟩
  | .hbm, ⟨16, _⟩ => ⟨S3456, .f32⟩
  | .hbm, ⟨17, _⟩ => ⟨S1x3456, .f32⟩
  | .hbm, ⟨18, _⟩ => ⟨S_, .f32⟩
  | .hbm, ⟨19, _⟩ => ⟨S3456x16, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S3456x16, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S3456x16, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S3456x16, .f32⟩
  | .hbm, ⟨38, _⟩ => ⟨S3456x16, .bf16⟩
  | .hbm, ⟨39, _⟩ => ⟨S_, .f32⟩
  | .hbm, ⟨40, _⟩ => ⟨S1, .f32⟩
  | .hbm, ⟨41, _⟩ => ⟨S_, .f32⟩
  | .hbm, ⟨42, _⟩ => ⟨S5, .f32⟩
  | .hbm, ⟨43, _⟩ => ⟨S16, .f32⟩
  | .hbm, ⟨44, _⟩ => ⟨S1x16, .f32⟩
  | .hbm, ⟨45, _⟩ => ⟨S50176x8, .f32⟩
  | .hbm, ⟨46, _⟩ => ⟨S50000x3, .f32⟩
  | .hbm, ⟨47, _⟩ => ⟨S_, .i32⟩
  | .hbm, ⟨48, _⟩ => ⟨S_, .i32⟩
  | .hbm, ⟨49, _⟩ => ⟨S50176, .i32⟩
  | .hbm, ⟨50, _⟩ => ⟨S401408, .f32⟩
  | .hbm, ⟨51, _⟩ => ⟨S32x4096, .f32⟩
  | .hbm, ⟨52, _⟩ => ⟨S1x4096, .f32⟩
  | .hbm, ⟨53, _⟩ => ⟨S512x8, .f32⟩
  | .hbm, ⟨54, _⟩ => ⟨S512x1, .f32⟩
  | .hbm, ⟨55, _⟩ => ⟨S512, .f32⟩
  | .hbm, ⟨56, _⟩ => ⟨S512x6, .f32⟩
  | .local .tc .vmem, ⟨0, _⟩ => ⟨S1024x1152, .f32⟩
  | .local .tc .vmem, ⟨1, _⟩ => ⟨S1024x1152, .f32⟩
  | .local .tc .vmem, ⟨2, _⟩ => ⟨S1152x3456, .bf16⟩
  | .local .tc .vmem, ⟨3, _⟩ => ⟨S1x3456, .f32⟩
  | .local .tc .vmem, ⟨4, _⟩ => ⟨S3456x16, .bf16⟩
  | .local .tc .vmem, ⟨5, _⟩ => ⟨S1x16, .f32⟩
  | .local .tc .vmem, ⟨6, _⟩ => ⟨S1024x8, .f32⟩
  | .local .tc .vmem, ⟨7, _⟩ => ⟨S1024x8, .f32⟩
  | .local .tc .vmem, ⟨8, _⟩ => ⟨S1024x3, .f32⟩
  | .local .tc .vmem, ⟨9, _⟩ => ⟨S1024x3, .f32⟩
  | .local .tc .vmem, ⟨10, _⟩ => ⟨S32x4096, .f32⟩
  | .local .tc .vmem, ⟨11, _⟩ => ⟨S1x4096, .f32⟩
  | .local .scVector .vmem, ⟨0, _⟩ => ⟨S1568, .i32⟩
  | .local .scVector .vmem, ⟨1, _⟩ => ⟨S12544, .f32⟩
  | .local .scVector .vmem, ⟨2, _⟩ => ⟨S65536, .f32⟩
  | .local .scVector .vmem, ⟨3, _⟩ => ⟨S4096, .f32⟩
  | _, _ => ⟨S50000x1152, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_3 : Ref sig .tc := ⟨.hbm, 32, rfl⟩
abbrev main_v13 : Ref sig .tc := ⟨.hbm, 33, rfl⟩
abbrev main_c_4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_c_7 : Ref sig .tc := ⟨.hbm, 47, rfl⟩
abbrev main_call0_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v23_scv : Ref sig .scVector := ⟨.hbm, 49, rfl⟩
abbrev main_v24_scv : Ref sig .scVector := ⟨.hbm, 50, rfl⟩
abbrev main_v25_scv : Ref sig .scVector := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc2_stg0_0 : Ref sig .tc := ⟨.vmem, 10, rfl⟩
abbrev cc2_stg1_0 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc2_sem0_0 : DmaSem sig := 13
abbrev cc2_sem1_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3456x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1568_i32 : BitVec 32 := 1568#32
  let v2 : BitVec 32 := Scalar.muli v1 c1568_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1568_i32_0 : BitVec 32 := 1568#32
  let v3 : BitVec 32 := Scalar.muli v1 c1568_i32_0
  let c8_i32 : BitVec 32 := 8#32
  let v4 : BitVec 32 := Scalar.muli v3 c8_i32
  ![v4.toNat]
@[reducible] def k1_t1_loop : Scf.Loop 32 :=
  let c0_i32_1 : BitVec 32 := 0#32
  let c4096_i32 : BitVec 32 := 4096#32
  let v6 : BitVec 32 := Scalar.addi c0_i32_1 c4096_i32
  let c1_i32 : BitVec 32 := 1#32
  ⟨c0_i32_1, v6, c1_i32⟩
def k1_off3 (k1_t1 : Fin k1_t1_loop.trips) : Fin 1 → Nat :=
  let c0_i32_1 : BitVec 32 := 0#32
  let c1_i32 : BitVec 32 := 1#32
  let arg9 : BitVec 32 := Scf.iv c0_i32_1 c1_i32 k1_t1
  let c16_i32 : BitVec 32 := 16#32
  let v16 : BitVec 32 := Scalar.muli arg9 c16_i32
  let v17 : Index := Scalar.indexCast v16
  ![v17.toNat]
@[reducible] def k1_t2_loop : Scf.Loop 32 :=
  let c0_i32_5 : BitVec 32 := 0#32
  let c784_i32 : BitVec 32 := 784#32
  let v14 : BitVec 32 := Scalar.addi c0_i32_5 c784_i32
  let c1_i32_6 : BitVec 32 := 1#32
  ⟨c0_i32_5, v14, c1_i32_6⟩

def k1_chk1 (v18 : IVec S16 32) : Prop :=
  (∀ a x, ((![v18] : Fin 1 → IVec S16 32) a x).toNat < S1568.size a)
theorem k1_idx1_inb : ∀ (v18 : IVec S16 32) (k1_hw1 : k1_chk1 v18), ∀ a x, ((![v18] : Fin 1 → IVec S16 32) a x).toNat < S1568.size a := fun v18 k1_hw1 => k1_hw1
def k1_off4 (k1_t2 : Fin k1_t2_loop.trips) : Fin 1 → Nat :=
  let c0_i32_5 : BitVec 32 := 0#32
  let c1_i32_6 : BitVec 32 := 1#32
  let arg9 : BitVec 32 := Scf.iv c0_i32_5 c1_i32_6 k1_t2
  let c16_i32 : BitVec 32 := 16#32
  let v24 : BitVec 32 := Scalar.muli arg9 c16_i32
  let v25 : Index := Scalar.indexCast v24
  ![v25.toNat]

def k1_chk2 (v23 : IVec S16 32) : Prop :=
  (∀ a x, ((![v23] : Fin 1 → IVec S16 32) a x).toNat < S65536.size a)
theorem k1_idx2_inb : ∀ (v23 : IVec S16 32) (k1_hw2 : k1_chk2 v23), ∀ a x, ((![v23] : Fin 1 → IVec S16 32) a x).toNat < S65536.size a := fun v23 k1_hw2 => k1_hw2
@[reducible] def k1_t3_loop : Scf.Loop 32 :=
  let c0_i32_9 : BitVec 32 := 0#32
  let c256_i32 : BitVec 32 := 256#32
  let v15 : BitVec 32 := Scalar.addi c0_i32_9 c256_i32
  let c1_i32_10 : BitVec 32 := 1#32
  ⟨c0_i32_9, v15, c1_i32_10⟩
def k1_off5 (k1_t3 : Fin k1_t3_loop.trips) : Fin 1 → Nat :=
  let c0_i32_9 : BitVec 32 := 0#32
  let c1_i32_10 : BitVec 32 := 1#32
  let arg9 : BitVec 32 := Scf.iv c0_i32_9 c1_i32_10 k1_t3
  let c16_i32 : BitVec 32 := 16#32
  let v16 : BitVec 32 := Scalar.muli arg9 c16_i32
  let v17 : Index := Scalar.indexCast v16
  ![v17.toNat]
def k1_off6 (k1_t3 : Fin k1_t3_loop.trips) (c4096_i32_13 : BitVec 32) : Fin 1 → Nat :=
  let c0_i32_9 : BitVec 32 := 0#32
  let c1_i32_10 : BitVec 32 := 1#32
  let arg9 : BitVec 32 := Scf.iv c0_i32_9 c1_i32_10 k1_t3
  let c16_i32_12 : BitVec 32 := 16#32
  let v19 : BitVec 32 := Scalar.muli arg9 c16_i32_12
  let v20 : BitVec 32 := Scalar.addi c4096_i32_13 v19
  let v21 : Index := Scalar.indexCast v20
  ![v21.toNat]
def k1_off7 (k1_t3 : Fin k1_t3_loop.trips) : Fin 1 → Nat :=
  let c0_i32_9 : BitVec 32 := 0#32
  let c1_i32_10 : BitVec 32 := 1#32
  let arg9 : BitVec 32 := Scf.iv c0_i32_9 c1_i32_10 k1_t3
  let c16_i32_28 : BitVec 32 := 16#32
  let v94 : BitVec 32 := Scalar.muli arg9 c16_i32_28
  let v95 : Index := Scalar.indexCast v94
  ![v95.toNat]
def k1_off8 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12_r2 : BitVec 32 := 0#32
  ![v1.toNat, 0]
abbrev grid2 : Pipeline.Grid := .none

abbrev stage2_0 : Fin 1 → Memref sig .tc .vmem S32x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x1152 : Shape := ⟨2, ![50000, 1152]⟩
abbrev S50000 : Shape := ⟨1, ![50000]⟩
abbrev S1152x1152 : Shape := ⟨2, ![1152, 1152]⟩
abbrev S1152 : Shape := ⟨1, ![1152]⟩
abbrev S1152x1 : Shape := ⟨2, ![1152, 1]⟩
abbrev S1 : Shape := ⟨1, ![1]⟩
abbrev S1152x3 : Shape := ⟨2, ![1152, 3]⟩
abbrev S3 : Shape := ⟨1, ![3]⟩
abbrev S1152x6 : Shape := ⟨2, ![1152, 6]⟩
abbrev S6 : Shape := ⟨1, ![6]⟩
abbrev S1x1152 : Shape := ⟨2, ![1, 1152]⟩
abbrev S50000x1 : Shape := ⟨2, ![50000, 1]⟩
abbrev S1x1 : Shape := ⟨2, ![1, 1]⟩
abbrev S_ : Shape := ⟨0, ![]⟩
abbrev S512 : Shape := ⟨1, ![512]⟩
abbrev S50000x3 : Shape := ⟨2, ![50000, 3]⟩
abbrev S1x3 : Shape := ⟨2, ![1, 3]⟩
abbrev S50000x6 : Shape := ⟨2, ![50000, 6]⟩
abbrev S1x6 : Shape := ⟨2, ![1, 6]⟩
abbrev S512x6 : Shape := ⟨2, ![512, 6]⟩

abbrev nBuf : Space → Nat
  | .hbm => 50
  | .vmem => 0
  | .smem => 0
  | _ => 0

abbrev bufTy : (tb : Table) → Fin (tcTables nBuf tb) → BufTy
  | .hbm, ⟨0, _⟩ => ⟨S50000x1152, .f32⟩
  | .hbm, ⟨1, _⟩ => ⟨S50000, .i32⟩
  | .hbm, ⟨2, _⟩ => ⟨S1152x1152, .f32⟩
  | .hbm, ⟨3, _⟩ => ⟨S1152, .f32⟩
  | .hbm, ⟨4, _⟩ => ⟨S1152x1, .f32⟩
  | .hbm, ⟨5, _⟩ => ⟨S1, .f32⟩
  | .hbm, ⟨6, _⟩ => ⟨S1152x1152, .f32⟩
  | .hbm, ⟨7, _⟩ => ⟨S1152, .f32⟩
  | .hbm, ⟨8, _⟩ => ⟨S1152x3, .f32⟩
  | .hbm, ⟨9, _⟩ => ⟨S3, .f32⟩
  | .hbm, ⟨10, _⟩ => ⟨S1152x1152, .f32⟩
  | .hbm, ⟨11, _⟩ => ⟨S1152, .f32⟩
  | .hbm, ⟨12, _⟩ => ⟨S1152x6, .f32⟩
  | .hbm, ⟨13, _⟩ => ⟨S6, .f32⟩
  | .hbm, ⟨14, _⟩ => ⟨S50000x1152, .f32⟩
  | .hbm, ⟨15, _⟩ => ⟨S1x1152, .f32⟩
  | .hbm, ⟨16, _⟩ => ⟨S50000x1152, .f32⟩
  | .hbm, ⟨17, _⟩ => ⟨S50000x1152, .f32⟩
  | .hbm, ⟨18, _⟩ => ⟨S50000x1152, .f32⟩
  | .hbm, ⟨19, _⟩ => ⟨S50000x1, .f32⟩
  | .hbm, ⟨20, _⟩ => ⟨S1x1, .f32⟩
  | .hbm, ⟨21, _⟩ => ⟨S50000x1, .f32⟩
  | .hbm, ⟨22, _⟩ => ⟨S50000x1, .f32⟩
  | .hbm, ⟨23, _⟩ => ⟨S50000, .f32⟩
  | .hbm, ⟨24, _⟩ => ⟨S_, .f32⟩
  | .hbm, ⟨25, _⟩ => ⟨S512, .f32⟩
  | .hbm, ⟨26, _⟩ => ⟨S50000x1, .i32⟩
  | .hbm, ⟨27, _⟩ => ⟨S512, .f32⟩
  | .hbm, ⟨28, _⟩ => ⟨S50000x1152, .f32⟩
  | .hbm, ⟨29, _⟩ => ⟨S1x1152, .f32⟩
  | .hbm, ⟨30, _⟩ => ⟨S50000x1152, .f32⟩
  | .hbm, ⟨31, _⟩ => ⟨S50000x1152, .f32⟩
  | .hbm, ⟨32, _⟩ => ⟨S50000x1152, .f32⟩
  | .hbm, ⟨33, _⟩ => ⟨S50000x3, .f32⟩
  | .hbm, ⟨34, _⟩ => ⟨S1x3, .f32⟩
  | .hbm, ⟨35, _⟩ => ⟨S50000x3, .f32⟩
  | .hbm, ⟨36, _⟩ => ⟨S50000x3, .f32⟩
  | .hbm, ⟨37, _⟩ => ⟨S50000x1152, .f32⟩
  | .hbm, ⟨38, _⟩ => ⟨S1x1152, .f32⟩
  | .hbm, ⟨39, _⟩ => ⟨S50000x1152, .f32⟩
  | .hbm, ⟨40, _⟩ => ⟨S50000x1152, .f32⟩
  | .hbm, ⟨41, _⟩ => ⟨S50000x1152, .f32⟩
  | .hbm, ⟨42, _⟩ => ⟨S50000x6, .f32⟩
  | .hbm, ⟨43, _⟩ => ⟨S1x6, .f32⟩
  | .hbm, ⟨44, _⟩ => ⟨S50000x6, .f32⟩
  | .hbm, ⟨45, _⟩ => ⟨S50000x6, .f32⟩
  | .hbm, ⟨46, _⟩ => ⟨S_, .f32⟩
  | .hbm, ⟨47, _⟩ => ⟨S512x6, .f32⟩
  | .hbm, ⟨48, _⟩ => ⟨S50000x1, .i32⟩
  | .hbm, ⟨49, _⟩ => ⟨S512x6, .f32⟩
  | _, _ => ⟨S50000x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Proof.Setup.lean ====
/-
  The launch set-up of the kernel's program: the SparseCore launch's configuration, the resource algebra (the handshakes'
  rounds, the two TensorCore pipelines' staging cells, the tiles' transfer counters), the arrays the SparseCore call works
  on, and what the handshakes carry.
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.Pipeline.KitQuiescent
public import Idealize.ShloMosaic.Lib.Pipeline.ArrRel
public import Idealize.ShloMosaic.Lib.Transfers
public import Idealize.ShloMosaic.Lib.Writes
public import Idealize.ShloMosaic.Lib.Tactic

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's layout facts: its four semaphores and the buffers that cross processors. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' staging cells: the left factor of the right one. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays of the SparseCore call and a tile's slices of them -/

abbrev iLoc (d : Dev nD) : Loc nD τ sig := (SparseCore.T d).loc main_v23
abbrev vLoc (d : Dev nD) : Loc nD τ sig := (SparseCore.T d).loc main_v24
abbrev oLoc (d : Dev nD) : Loc nD τ sig := (SparseCore.T d).loc main_v25

local notation "iW" => (Memref.whole Cert.KernelIdeal.main_v23_scv : Memref Cert.KernelIdeal.sig Kind.scVector Space.hbm Cert.KernelIdeal.S50176 EltTy.i32)
local notation "vW" => (Memref.whole Cert.KernelIdeal.main_v24_scv : Memref Cert.KernelIdeal.sig Kind.scVector Space.hbm Cert.KernelIdeal.S401408 EltTy.f32)
local notation "oW" => (Memref.whole Cert.KernelIdeal.main_v25_scv : Memref Cert.KernelIdeal.sig Kind.scVector Space.hbm Cert.KernelIdeal.S32x4096 EltTy.f32)

/-- Tile `L`'s 1568 indices, its 12544 values and its row of the partial sums, as the kernel slices them. -/
abbrev iSl (L : grid1.Coords) : Memref sig .scVector .hbm S1568 .i32 :=
  (iW).slice (Rect.unit (s := S50176) (k1_off1 L) S1568.size (k1_off1_inb L)) (fun _ => rfl)
abbrev vSl (L : grid1.Coords) : Memref sig .scVector .hbm S12544 .f32 :=
  (vW).slice (Rect.unit (s := S401408) (k1_off2 L) S12544.size (k1_off2_inb L)) (fun _ => rfl)
abbrev oSl (L : grid1.Coords) : Memref sig .scVector .hbm S4096 .f32 :=
  ((oW).slice (Rect.unit (s := S32x4096) (k1_off8 L) S1x4096.size (k1_off8_inb L)) (fun _ => rfl)).squeeze S4096 squeezes_S1x4096_S4096

abbrev cV (L : grid1.Coords) : Fin τ.nSC := (L 0).castLE hcore1
abbrev jV (L : grid1.Coords) : Fin τ.nSub := (L 1).castLE hsub1

def coordsV (c : Fin (grid1.bound 0)) (s : Fin (grid1.bound 1)) : grid1.Coords :=
  fun | 0 => c | 1 => s | ⟨_ + 2, h⟩ => absurd h (Nat.not_lt.2 (Nat.le_add_left _ _))

/-! ## What a tile computes, over any float values -/

section Value

variable [FloatOps F]

/-- The sixteen values that step `t` adds: lanes 16 t … 16 t + 15 of the tile's values. -/
def stepVals (lv : Vec F S12544 .f32) (t : Fin k1_t2_loop.trips) : Vec F S16 .f32 :=
  (Memref.whole cc1_scratch1 : Memref sig .scVector .vmem S12544 .f32).view.readAt (Elt F)
    (Rect.unit (s := S12544) (k1_off4 t) S16.size (k1_off4_inb t)).toLoadRect lv

/-- One step of the tile's accumulation: the sixteen values are added at the places the two structures' indices name,
    one place of each lane's own stretch of the accumulator. -/
def accStep (li : Vec F S1568 .i32) (lv : Vec F S12544 .f32) (t : Fin k1_t2_loop.trips) (g : Vec F S65536 .f32) : Vec F S65536 .f32 :=
  if h1 : k1_chk1 (k1_pay3 t) then
    if h2 : k1_chk2 (k1_pay4 (loadIdx (F := F) li ![k1_pay3 t] h1)) then
      storeIdx g ![k1_pay4 (loadIdx (F := F) li ![k1_pay3 t] h1)] (stepVals lv t) (fun _ => 1#1) true h2
    else g
  else g

/-- The accumulator after `n` steps, from zero. -/
def accN (li : Vec F S1568 .i32) (lv : Vec F S12544 .f32) : ℕ → Vec F S65536 .f32
  | 0 => fun _ => Scalar.ofBits .f32 0x00000000#32
  | n + 1 => if h : n < k1_t2_loop.trips then accStep li lv ⟨n, h⟩ (accN li lv n) else accN li lv n

/-- Place `j` of lane `r`'s stretch of the accumulator. -/
def cell (r : Fin 16) (j : Fin 4096) : S65536.Idx :=
  Shape.ofLane (d := ![65536]) ⟨4096 * r.val + j.val, by
    have := r.isLt; have := j.isLt; change 4096 * r.val + j.val < 65536; omega⟩

/-- The sixteen lanes' stretches added up at place `j`, lane 0 first. -/
def sum16 (A : Vec F S65536 .f32) (j : Fin 4096) : F .f32 :=
  ([1, 2, 3, 4, 5, 6, 7, 8, 9, 10, 11, 12, 13, 14, 15] : List (Fin 16)).foldl (fun s r => FloatOps.addf s (A (cell r j))) (A (cell 0 j))

/-- A tile's row of partial sums, from its indices and its values. -/
def segRow (li : Vec F S1568 .i32) (lv : Vec F S12544 .f32) : Vec F S4096 .f32 := fun j => sum16 (accN li lv k1_t2_loop.trips) (j 0)

end Value

/-! ## What the handshakes carry -/

/-- What the run is told of the two operands: the padded indices, and what the values may be. -/
structure Spec (F : FTy → Type) where
  /-- The padded indices. -/
  ix : (d : Dev nD) → Buf (Elt F) (iLoc d)
  /-- What the values may be. -/
  good : (d : Dev nD) → Buf (Elt F) (vLoc d) → Prop

variable (sp : Spec F) [FloatOps F]

/-- What tile `L` is handed: its indices, its values (some that the specification allows), its row. -/
def goAt (d : Dev nD) (L : grid1.Coords) : sProp 𝕄 :=
  iprop((iLoc d ↦[(iSl L).view.set]{fullShare} sp.ix d)
    ∗ (∃ v, ⌜sp.good d v⌝ ∗ vLoc d ↦[(vSl L).view.set]{fullShare} v)
    ∗ ∃ f, oLoc d ↦[(oSl L).view.set]{fullShare} f)

/-- What tile `L` hands back: the same, its row at the partial sums of its indices and values. -/
def tdAt (d : Dev nD) (L : grid1.Coords) : sProp 𝕄 :=
  iprop((iLoc d ↦[(iSl L).view.set]{fullShare} sp.ix d)
    ∗ (∃ v, ⌜sp.good d v⌝ ∗ (vLoc d ↦[(vSl L).view.set]{fullShare} v)
      ∗ ∃ f, ⌜(oSl L).view.read (Elt F) f = segRow ((iSl L).view.read (Elt F) (sp.ix d)) ((vSl L).view.read (Elt F) v)⌝
        ∗ oLoc d ↦[(oSl L).view.set]{fullShare} f))

set_option synthInstance.maxHeartbeats 400000 in
instance goAt_storable (d : Dev nD) (L : grid1.Coords) : BI.Storable (upEmb : UEmb _ 𝕄) (goAt sp d L) := by
  unfold goAt; infer_instance
set_option synthInstance.maxHeartbeats 400000 in
instance tdAt_storable (d : Dev nD) (L : grid1.Coords) : BI.Storable (upEmb : UEmb _ 𝕄) (tdAt sp d L) := by
  unfold tdAt; infer_instance

/-- A SparseCore's share going out: its sixteen tiles'. -/
def goCore (d : Dev nD) (c : Fin (grid1.bound 0)) : sProp 𝕄 := bigSep Finset.univ fun i : Fin 16 => goAt sp d (coordsV c i)
/-- A SparseCore's share coming back: its sixteen tiles'. -/
def tdCore (d : Dev nD) (c : Fin (grid1.bound 0)) : sProp 𝕄 := bigSep Finset.univ fun i : Fin 16 => tdAt sp d (coordsV c i)

instance goAt_core_storable (d : Dev nD) (c : Fin (grid1.bound 0)) : BI.Storable (upEmb : UEmb _ 𝕄) (goCore sp d c) :=
  haveI : ∀ i : Fin 16, BI.Storable (upEmb : UEmb _ 𝕄) (goAt sp d (coordsV c i)) := fun i => goAt_storable sp d _
  BI.Storable.bigSep upEmb _ _
instance tdAt_core_storable (d : Dev nD) (c : Fin (grid1.bound 0)) : BI.Storable (upEmb : UEmb _ 𝕄) (tdCore sp d c) :=
  haveI : ∀ i : Fin 16, BI.Storable (upEmb : UEmb _ 𝕄) (tdAt sp d (coordsV c i)) := fun i => tdAt_storable sp d _
  BI.Storable.bigSep upEmb _ _

/-- The one call's payloads: a SparseCore's share is its tiles' shares. -/
def P : (K (F := F)).Pay (nD := nD) (Val := Elt F) (Name := ℕ) (U := UU) where
  st := fun q d c => match q with
    | 0 => goCore sp d c
  dn := fun q d c => match q with
    | 0 => tdCore sp d c
  go := fun q d c i => match q with
    | 0 => goAt sp d (coordsV c i)
  td := fun q d c i => match q with
    | 0 => tdAt sp d (coordsV c i)
  x := fun _ _ => iprop(emp)

instance P_storable : (P (F := F) sp).IsStorable where
  st q d c := match q with
    | 0 => goAt_core_storable sp d c
  dn q d c := match q with
    | 0 => tdAt_core_storable sp d c
  go q d c i := match q with
    | 0 => goAt_storable sp d (coordsV c i)
  td q d c i := match q with
    | 0 => tdAt_storable sp d (coordsV c i)

end Cert.Proof.Seg

end
-- ==== Proof.TileVals.lean ====
/-
  Facts about the words and values one tile of the SparseCore call works with: the loops' trip counts, the checks on the
  indices, and what the three loops' accesses read.
-/
module

public import proofs.«01_k».proof.Proof.Setup

@[expose] public section

noncomputable section

namespace Cert.Proof.Seg

open Cert.KernelIdeal Cert.KernelIdeal.Gen
open Idealize.ShloMosaic

variable {F : FTy → Type} [FloatOps F]

theorem trips1 : k1_t1_loop.trips = 4096 := by decide
theorem trips2 : k1_t2_loop.trips = 784 := by decide
theorem trips3 : k1_t3_loop.trips = 256 := by decide

/-- The lane number's eighth, as a word. -/
theorem lane_shr : ∀ r : Fin 16, (IntOp.shrui .vector (BitVec.ofNat 32 r.val) 3#32) = BitVec.ofNat 32 (r.val / 8) := by decide
/-- The lane number modulo eight, as a word. -/
theorem lane_and : ∀ r : Fin 16, (BitVec.ofNat 32 r.val &&& 7#32) = BitVec.ofNat 32 (r.val % 8) := by decide

/-- The word of lane `x`'s index into the tile's indices at step `t`: structure 2 t + x / 8. -/
theorem pay3_toNat (t : Fin k1_t2_loop.trips) (x : S16.Idx) : (k1_pay3 t x).toNat = 2 * t.val + (x 0).val / 8 := by
  have ht : t.val < 784 := trips2 ▸ t.isLt
  have hx : (x 0).val < 16 := (x 0).isLt
  have h : k1_pay3 t x = IntOp.shrui .vector (BitVec.ofNat 32 (0 * S16.size 0 + (x 0).val)) 3#32 + 2#32 * (0#32 + BitVec.ofNat 32 t.val * 1#32) := rfl
  rw [h, Nat.zero_mul, Nat.zero_add, lane_shr (x 0)]
  simp only [BitVec.toNat_add, BitVec.toNat_mul, BitVec.toNat_ofNat]
  omega

/-- The word of lane `x`'s place in the accumulator, for an index below 512: place 8 · index + x mod 8 of the lane's stretch. -/
theorem pay4_toNat (v : Vec F S16 .i32) (x : S16.Idx) (hv : (v x : BitVec 32).toNat < 512) :
    (k1_pay4 (F := F) v x).toNat = 4096 * (x 0).val + (8 * (v x : BitVec 32).toNat + (x 0).val % 8) := by
  have hx : (x 0).val < 16 := (x 0).isLt
  have h : k1_pay4 (F := F) v x = BitVec.ofNat 32 (0 * S16.size 0 + (x 0).val) * 4096#32 + (v x : BitVec 32) * 8#32 + (BitVec.ofNat 32 (0 * S16.size 0 + (x 0).val) &&& 7#32) := rfl
  rw [h, Nat.zero_mul, Nat.zero_add, lane_and (x 0)]
  simp only [BitVec.toNat_add, BitVec.toNat_mul, BitVec.toNat_ofNat]
  omega

/-- The gather's check always holds. -/
theorem chk1_holds (t : Fin k1_t2_loop.trips) : k1_chk1 (k1_pay3 t) := by
  intro a x
  obtain rfl : a = 0 := Subsingleton.elim _ _
  have ht : t.val < 784 := trips2 ▸ t.isLt
  have hx : (x 0).val < 16 := (x 0).isLt
  show (k1_pay3 t x).toNat < 1568
  rw [pay3_toNat]; omega

/-- The accumulation's check holds of indices below 512. -/
theorem chk2_holds (v : Vec F S16 .i32) (hv : ∀ x, (v x : BitVec 32).toNat < 512) : k1_chk2 (k1_pay4 (F := F) v) := by
  intro a x
  obtain rfl : a = 0 := Subsingleton.elim _ _
  have hx : (x 0).val < 16 := (x 0).isLt
  show (k1_pay4 (F := F) v x).toNat < 65536
  rw [pay4_toNat v x (hv x)]; have := hv x; omega

/-- One step of the accumulation, its checks passed. -/
theorem accStep_eq (li : Vec F S1568 .i32) (lv : Vec F S12544 .f32) (t : Fin k1_t2_loop.trips) (g : Vec F S65536 .f32)
    (h1 : k1_chk1 (k1_pay3 t)) (h2 : k1_chk2 (k1_pay4 (loadIdx (F := F) li ![k1_pay3 t] h1))) :
    accStep li lv t g = storeIdx g ![k1_pay4 (loadIdx (F := F) li ![k1_pay3 t] h1)] (stepVals lv t) (fun _ => 1#1) true h2 := by
  unfold accStep; rw [dif_pos h1, dif_pos h2]

theorem accN_succ (li : Vec F S1568 .i32) (lv : Vec F S12544 .f32) (t : Fin k1_t2_loop.trips) :
    accN li lv (t.val + 1) = accStep li lv t (accN li lv t.val) := by
  show (if h : t.val < k1_t2_loop.trips then accStep li lv ⟨t.val, h⟩ (accN li lv t.val) else accN li lv t.val) = _
  rw [dif_pos t.isLt]

/-- A load of sixteen values of the accumulator at `off`. -/
abbrev rd7 (A : Vec F S65536 .f32) (off : Fin 1 → ℕ) (h : ∀ a, off a + S16.size a ≤ S65536.size a) : Vec F S16 .f32 :=
  (Memref.whole cc1_scratch2 : Memref sig .scVector .vmem S65536 .f32).view.readAt (Elt F) (Rect.unit (s := S65536) off S16.size h).toLoadRect A

/-- Such a load reads places `off 0 + x`. -/
theorem rd7_apply (A : Vec F S65536 .f32) (off : Fin 1 → ℕ) (h : ∀ a, off a + S16.size a ≤ S65536.size a) (x : S16.Idx)
    (r : Fin 16) (j : Fin 4096) (he : off 0 + (x 0).val = 4096 * r.val + j.val) : rd7 A off h x = A (cell r j) := by
  unfold rd7
  simp only [View.readAt_apply, Memref.view_whole, View.read_whole]
  congr 1
  refine funext fun (a : Fin 1) => ?_
  obtain rfl : a = 0 := Subsingleton.elim _ _
  apply Fin.ext
  rw [LoadRect.idx_apply]
  show off 0 + 1 * (x 0).val = 4096 * r.val + j.val
  omega

/-- What one trip of the third loop stores: the sixteen stretches added up at places 16 t + x. -/
theorem trip3_val (A : Vec F S65536 .f32) (t : Fin k1_t3_loop.trips) (x : S16.Idx) (j : Fin 4096) (hj : j.val = 16 * t.val + (x 0).val) :
    k1_pay5 (k1_pay1 (rd7 A (k1_off5 t) (k1_off5_inb t)) (rd7 A (k1_off6 t 4096#32) (k1_off6_inb t 0)) (rd7 A (k1_off6 t 8192#32) (k1_off6_inb t 1))
        (rd7 A (k1_off6 t 12288#32) (k1_off6_inb t 2)) (rd7 A (k1_off6 t 16384#32) (k1_off6_inb t 3)) (rd7 A (k1_off6 t 20480#32) (k1_off6_inb t 4))
        (rd7 A (k1_off6 t 24576#32) (k1_off6_inb t 5)) (rd7 A (k1_off6 t 28672#32) (k1_off6_inb t 6)))
      (rd7 A (k1_off6 t 32768#32) (k1_off6_inb t 7)) (rd7 A (k1_off6 t 36864#32) (k1_off6_inb t 8)) (rd7 A (k1_off6 t 40960#32) (k1_off6_inb t 9))
      (rd7 A (k1_off6 t 45056#32) (k1_off6_inb t 10)) (rd7 A (k1_off6 t 49152#32) (k1_off6_inb t 11)) (rd7 A (k1_off6 t 53248#32) (k1_off6_inb t 12))
      (rd7 A (k1_off6 t 57344#32) (k1_off6_inb t 13)) (rd7 A (k1_off6 t 61440#32) (k1_off6_inb t 14)) x = sum16 A j := by
  have h0 : rd7 A (k1_off5 t) (k1_off5_inb t) x = A (cell 0 j) :=
    rd7_apply A _ _ x 0 j (by rw [k1_off5_eq]; show 16 * t.val + (x 0).val = 4096 * 0 + j.val; omega)
  have h6 (r : Fin 15) (h) : rd7 A (k1_off6 t (BitVec.ofNat 32 (4096 + 4096 * r.val))) h x = A (cell r.succ j) :=
    rd7_apply A _ h x r.succ j (by
      rw [k1_off6_eq]; show 4096 * r.val + 16 * t.val + 4096 + (x 0).val = 4096 * (r.val + 1) + j.val; omega)
  simp only [sum16, List.foldl]
  rw [← h0, ← (show _ = A (cell 1 j) from h6 0 (k1_off6_inb t 0)), ← (show _ = A (cell 2 j) from h6 1 (k1_off6_inb t 1)), ← (show _ = A (cell 3 j) from h6 2 (k1_off6_inb t 2)), ← (show _ = A (cell 4 j) from h6 3 (k1_off6_inb t 3)), ← (show _ = A (cell 5 j) from h6 4 (k1_off6_inb t 4)), ← (show _ = A (cell 6 j) from h6 5 (k1_off6_inb t 5)), ← (show _ = A (cell 7 j) from h6 6 (k1_off6_inb t 6)), ← (show _ = A (cell 8 j) from h6 7 (k1_off6_inb t 7)), ← (show _ = A (cell 9 j) from h6 8 (k1_off6_inb t 8)), ← (show _ = A (cell 10 j) from h6 9 (k1_off6_inb t 9)), ← (show _ = A (cell 11 j) from h6 10 (k1_off6_inb t 10)), ← (show _ = A (cell 12 j) from h6 11 (k1_off6_inb t 11)), ← (show _ = A (cell 13 j) from h6 12 (k1_off6_inb t 12)), ← (show _ = A (cell 14 j) from h6 13 (k1_off6_inb t 13)), ← (show _ = A (cell 15 j) from h6 14 (k1_off6_inb t 14))]
  rfl

end Cert.Proof.Seg
end
-- ==== Proof.TileLoops.lean ====
/-
  The three loops of the SparseCore call's tile body, one trip of each at a symbolic trip number: the accumulator zeroed,
  one step of the accumulation, sixteen places of the row added up.
-/
module

public import proofs.«01_k».proof.Proof.TileVals

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iW" => (Memref.whole Cert.KernelIdeal.main_v23_scv : Memref Cert.KernelIdeal.sig Kind.scVector Space.hbm Cert.KernelIdeal.S50176 EltTy.i32)
local notation "vW" => (Memref.whole Cert.KernelIdeal.main_v24_scv : Memref Cert.KernelIdeal.sig Kind.scVector Space.hbm Cert.KernelIdeal.S401408 EltTy.f32)
local notation "oW" => (Memref.whole Cert.KernelIdeal.main_v25_scv : Memref Cert.KernelIdeal.sig Kind.scVector Space.hbm Cert.KernelIdeal.S32x4096 EltTy.f32)
local notation "sI" => (Memref.whole Cert.KernelIdeal.cc1_scratch0 : Memref Cert.KernelIdeal.sig Kind.scVector Space.vmem Cert.KernelIdeal.S1568 EltTy.i32)
local notation "sV" => (Memref.whole Cert.KernelIdeal.cc1_scratch1 : Memref Cert.KernelIdeal.sig Kind.scVector Space.vmem Cert.KernelIdeal.S12544 EltTy.f32)
local notation "sA" => (Memref.whole Cert.KernelIdeal.cc1_scratch2 : Memref Cert.KernelIdeal.sig Kind.scVector Space.vmem Cert.KernelIdeal.S65536 EltTy.f32)
local notation "sR" => (Memref.whole Cert.KernelIdeal.cc1_scratch3 : Memref Cert.KernelIdeal.sig Kind.scVector Space.vmem Cert.KernelIdeal.S4096 EltTy.f32)

/-! ## What a store of sixteen values leaves -/

section Stores

variable {n : ℕ} (m : Memref sig .scVector .vmem ⟨1, ![n]⟩ .f32) (f : m.view.ty.Contents (Elt F)) (off : Fin 1 → ℕ) (h : ∀ a, off a + S16.size a ≤ ![n] a)
    (w : Vec F S16 .f32)

/-- At the places it covers, the values stored; -/
theorem store16_hit (y : (⟨1, ![n]⟩ : Shape).Idx) (x : S16.Idx) (hx : (y 0).val = off 0 + (x 0).val) :
    m.view.read (Elt F) ((m.access (Rect.unit (s := ⟨1, ![n]⟩) off S16.size h)).write (Elt F) f w Finset.univ) y = w x :=
  View.read_writes_cons_hit_of_coords m.view f (Rect.unit (s := ⟨1, ![n]⟩) off S16.size h) w [] x y fun a => by
    obtain rfl : a = 0 := Subsingleton.elim _ _
    show (y 0).val = off 0 + 1 * (x 0).val
    omega
/-- elsewhere, what was there. -/
theorem store16_miss (y : (⟨1, ![n]⟩ : Shape).Idx) (hy : (y 0).val < off 0 ∨ off 0 + 16 ≤ (y 0).val) :
    m.view.read (Elt F) ((m.access (Rect.unit (s := ⟨1, ![n]⟩) off S16.size h)).write (Elt F) f w Finset.univ) y = m.view.read (Elt F) f y :=
  View.read_writes_cons_miss_of_axis m.view f ⟨Rect.unit (s := ⟨1, ![n]⟩) off S16.size h, w⟩ [] y 0 (off 0) 16 rfl rfl rfl hy

/-- So a property of each place below `o` that the values stored have, holds below `o + 16` after a store at `o`. -/
theorem store16_below (Q : (⟨1, ![n]⟩ : Shape).Idx → F .f32 → Prop) (o : ℕ) (ho : off 0 = o)
    (hf : ∀ y, (y 0).val < o → Q y (m.view.read (Elt F) f y)) (hw : ∀ (y) (x : S16.Idx), (y 0).val = o + (x 0).val → Q y (w x))
    (y : (⟨1, ![n]⟩ : Shape).Idx) (hy : (y 0).val < o + 16) :
    Q y (m.view.read (Elt F) ((m.access (Rect.unit (s := ⟨1, ![n]⟩) off S16.size h)).write (Elt F) f w Finset.univ) y) := by
  by_cases hlt : (y 0).val < o
  · rw [store16_miss m f off h w y (.inl (by rw [ho]; exact hlt))]; exact hf y hlt
  · have hx : (y 0).val - o < 16 := by omega
    have hxe : (y 0).val = o + ((Shape.ofLane (d := ![16]) ⟨(y 0).val - o, hx⟩ : S16.Idx) 0).val := by
      show (y 0).val = o + ((y 0).val - o); omega
    rw [store16_hit m f off h w y _ (by rw [ho]; exact hxe)]; exact hw y _ hxe

end Stores

variable [FloatOps F]

section Loops

variable (d : Dev nD) (L : grid1.Coords)

abbrev thrV : Thread nD τ := V d (cV L) (jV L)

/-! ## The loops' invariants -/

/-- The accumulator's first 16 n places are zero. -/
def inv1 (n : ℕ) (_ : PUnit) : sProp 𝕄 :=
  iprop(∃ f : Vec F S65536 .f32, ⌜∀ j : S65536.Idx, (j 0).val < 16 * n → f j = Scalar.ofBits .f32 0x00000000#32⌝ ∗ (sA).view.loc (thrV d L) ↦{fullShare} f)

/-- The accumulator after n steps, the indices and the values in the tile's memory. -/
def inv2 (li : Vec F S1568 .i32) (lv : Vec F S12544 .f32) (n : ℕ) (_ : PUnit) : sProp 𝕄 :=
  iprop(((sA).view.loc (thrV d L) ↦{fullShare} accN li lv n) ∗ ((sI).view.loc (thrV d L) ↦{fullShare} li) ∗ (sV).view.loc (thrV d L) ↦{fullShare} lv)

/-- The row's first 16 n places are the sixteen stretches' sums. -/
def inv3 (A : Vec F S65536 .f32) (n : ℕ) (_ : PUnit) : sProp 𝕄 :=
  iprop(((sA).view.loc (thrV d L) ↦{fullShare} A)
    ∗ ∃ f : Vec F S4096 .f32, ⌜∀ j : S4096.Idx, (j 0).val < 16 * n → f j = sum16 A (j 0)⌝ ∗ (sR).view.loc (thrV d L) ↦{fullShare} f)

/-- One trip of the zeroing loop. -/
theorem trip1 (k : Fin k1_t1_loop.trips) :
    inv1 (F := F) d L k.val ⟨⟩ ⊢ wp frame (wpE (defs₀ (F := F)) 𝒱₀ (thrV d L) none) Set.univ
      (k1_t1_body L iW (Memref.isWhole_whole _) vW (Memref.isWhole_whole _) oW (Memref.isWhole_whole _)
            sI (Memref.isWhole_whole _) sV (Memref.isWhole_whole _) sA (Memref.isWhole_whole _) sR (Memref.isWhole_whole _) cc1_scoped0 cc1_scoped1 cc1_scoped2 k ⟨⟩)
      fun x => inv1 (F := F) d L (k.val + 1) x := by
  unfold inv1
  iintro ⟨%f, %hf, H⟩
  unfold k1_t1_body
  sl_exec
  sl_step
  iexists _; isplitr
  rotate_left
  · iexact H
  ipureintro
  exact store16_below (sA) f (k1_off3 k) (k1_off3_inb k) (k1_pay2 (F := F)) (fun _ z => z = Scalar.ofBits .f32 0x00000000#32) (16 * k.val)
    (by rw [k1_off3_eq]; rfl) hf (fun _ _ _ => rfl)

omit [FloatOps F] in
/-- The accumulator as the scattering store addresses it is the accumulator. -/
theorem pts_access (f : Vec F S65536 .f32) :
    (((sA).access (.whole S65536)).loc (thrV d L) ↦[((sA).access (.whole S65536)).set]{fullShare} f : sProp 𝕄) = (sA).view.loc (thrV d L) ↦{fullShare} f := by
  rw [show ((sA).access (.whole S65536)).set = Finset.univ from Memref.set_access_whole (cc1_scratch2 : Ref sig .scVector)]

/-- A step depends on the indices and the accumulator it is told of only. -/
theorem step_congr (k : Fin k1_t2_loop.trips) (lv : Vec F S12544 .f32) {li' li : Vec F S1568 .i32} {A' A : Vec F S65536 .f32} (hi : li' = li) (hA : A' = A)
    (h2' : k1_chk2 (k1_pay4 (loadIdx (F := F) li' ![k1_pay3 k] (chk1_holds k)))) (h2 : k1_chk2 (k1_pay4 (loadIdx (F := F) li ![k1_pay3 k] (chk1_holds k)))) :
    storeIdx A' ![k1_pay4 (loadIdx (F := F) li' ![k1_pay3 k] (chk1_holds k))] (stepVals lv k) (fun _ => 1#1) true h2'
      = storeIdx A ![k1_pay4 (loadIdx (F := F) li ![k1_pay3 k] (chk1_holds k))] (stepVals lv k) (fun _ => 1#1) true h2 := by
  subst hi hA; rfl

/-- One trip of the accumulation. -/
theorem trip2 (li : Vec F S1568 .i32) (lv : Vec F S12544 .f32) (hli : ∀ j, (li j : BitVec 32).toNat < 512) (k : Fin k1_t2_loop.trips) :
    inv2 (F := F) d L li lv k.val ⟨⟩ ⊢ wp frame (wpE (defs₀ (F := F)) 𝒱₀ (thrV d L) none) Set.univ
      (k1_t2_body L iW (Memref.isWhole_whole _) vW (Memref.isWhole_whole _) oW (Memref.isWhole_whole _)
            sI (Memref.isWhole_whole _) sV (Memref.isWhole_whole _) sA (Memref.isWhole_whole _) sR (Memref.isWhole_whole _) cc1_scoped0 cc1_scoped1 cc1_scoped2 k ⟨⟩)
      fun x => inv2 (F := F) d L li lv (k.val + 1) x := by
  unfold inv2
  have h2 : k1_chk2 (k1_pay4 (loadIdx (F := F) li ![k1_pay3 k] (chk1_holds k))) := chk2_holds _ fun x => hli _
  rw [accN_succ, accStep_eq li lv k _ (chk1_holds k) h2]
  iintro ⟨HA, HI, HV⟩
  unfold k1_t2_body
  simp only [Prog.lift, Prog.bind_op, Prog.bind_ret, Prog.pure_eq_ret]
  rw [wp_assume_of _ _ _ _ (chk1_holds k)]
  iapply (SparseCore.wp_vectorLoadIdx 𝒱₀ (thrV d L) none Set.univ (s := S1568) (e := .i32) (base := sI) (S := Finset.univ) (Finset.subset_univ _)) $$ HI; iintro HI
  have hr : ((sI).access (.whole S1568)).read (Elt F) li = li := Memref.read_access_whole (Elt F) cc1_scratch0 li
  have h2' : k1_chk2 (k1_pay4 (loadIdx (F := F) (((sI).access (.whole S1568)).read (Elt F) li) ![k1_pay3 k] (k1_idx1_inb (k1_pay3 k) (chk1_holds k)))) :=
    chk2_holds _ fun x => by
      show (((sI).access (.whole S1568)).read (Elt F) li (idxAt ![k1_pay3 k] (k1_idx1_inb (k1_pay3 k) (chk1_holds k)) x) : BitVec 32).toNat < 512
      rw [hr]; exact hli _
  rw [wp_assume_of _ _ _ _ h2']
  iapply (wp_load 𝒱₀ (thrV d L) none Set.univ (m := sV) (S := Finset.univ) (Finset.subset_univ _)) $$ HV; iintro HV
  ihave HA := (Entails.of_eq (pts_access (F := F) d L _).symm) $$ HA
  iapply (SparseCore.wp_vectorStoreIdx 𝒱₀ (thrV d L) none Set.univ (s := S65536) (e := .f32) (base := sA)) $$ HA; iintro HA
  ihave HA := (Entails.of_eq (pts_access (F := F) d L _)) $$ HA
  rw [wp_ret]; imodintro
  isplitl [HA]
  · have e : ((sA).access (.whole S65536)).write (Elt F) (accN li lv k.val) (storeIdx (((sA).access (.whole S65536)).read (Elt F) (accN li lv k.val))
        ![k1_pay4 (loadIdx (F := F) (((sI).access (.whole S1568)).read (Elt F) li) ![k1_pay3 k] (k1_idx1_inb (k1_pay3 k) (chk1_holds k)))]
        ((sV).view.readAt (Elt F) (Rect.unit (s := S12544) (k1_off4 k) S16.size (k1_off4_inb k)).toLoadRect lv) (fun _ => 1#1) true
          (k1_idx2_inb _ h2')) Finset.univ
        = storeIdx (accN li lv k.val) ![k1_pay4 (loadIdx (F := F) li ![k1_pay3 k] (chk1_holds k))] (stepVals lv k) (fun _ => 1#1) true h2 :=
      (Memref.write_access_whole_univ (Elt F) cc1_scratch2 _ _).trans (step_congr k lv hr (Memref.read_access_whole (Elt F) cc1_scratch2 _) _ _)
    ihave HA := (Entails.of_eq (congrArg (fun f => ((sA).view.loc (thrV d L) ↦{fullShare} f : sProp 𝕄)) e)) $$ HA
    iexact HA
  isplitl [HI]; · iexact HI
  iexact HV

/-- One trip of the closing sums. -/
theorem trip3 (A : Vec F S65536 .f32) (k : Fin k1_t3_loop.trips) :
    inv3 (F := F) d L A k.val ⟨⟩ ⊢ wp frame (wpE (defs₀ (F := F)) 𝒱₀ (thrV d L) none) Set.univ
      (k1_t3_body L iW (Memref.isWhole_whole _) vW (Memref.isWhole_whole _) oW (Memref.isWhole_whole _)
            sI (Memref.isWhole_whole _) sV (Memref.isWhole_whole _) sA (Memref.isWhole_whole _) sR (Memref.isWhole_whole _) cc1_scoped0 cc1_scoped1 cc1_scoped2 k ⟨⟩)
      fun x => inv3 (F := F) d L A (k.val + 1) x := by
  unfold k1_t3_body
  simp only [k1_part1_eq_skeleton]; unfold k1_part1_skel
  simp only [Prog.lift, Prog.bind_op, Prog.bind_ret, Prog.pure_eq_ret]
  unfold inv3
  iintro ⟨HA, %f, %hf, H⟩
  sl_exec
  sl_step
  isplitl [HA]; · iexact HA
  iexists _; isplitr
  rotate_left
  · iexact H
  ipureintro
  refine store16_below (sR) f (k1_off7 k) (k1_off7_inb k) _ (fun y z => z = sum16 A (y 0)) (16 * k.val) (by rw [k1_off7_eq]; rfl) hf fun y x hy => ?_
  exact trip3_val A k x (y 0) hy

end Loops

end Cert.Proof.Seg
end
-- ==== Proof.Tile.lean ====
/-
  One tile's body of the SparseCore call, run at a symbolic pair of a SparseCore and a tile: two fetches, the accumulator
  zeroed, 784 steps of accumulation, the sixteen stretches added up, the row written out — with the values it leaves.
-/
module

public import proofs.«01_k».proof.Proof.TileLoops

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iW" => (Memref.whole Cert.KernelIdeal.main_v23_scv : Memref Cert.KernelIdeal.sig Kind.scVector Space.hbm Cert.KernelIdeal.S50176 EltTy.i32)
local notation "vW" => (Memref.whole Cert.KernelIdeal.main_v24_scv : Memref Cert.KernelIdeal.sig Kind.scVector Space.hbm Cert.KernelIdeal.S401408 EltTy.f32)
local notation "oW" => (Memref.whole Cert.KernelIdeal.main_v25_scv : Memref Cert.KernelIdeal.sig Kind.scVector Space.hbm Cert.KernelIdeal.S32x4096 EltTy.f32)
local notation "sI" => (Memref.whole Cert.KernelIdeal.cc1_scratch0 : Memref Cert.KernelIdeal.sig Kind.scVector Space.vmem Cert.KernelIdeal.S1568 EltTy.i32)
local notation "sV" => (Memref.whole Cert.KernelIdeal.cc1_scratch1 : Memref Cert.KernelIdeal.sig Kind.scVector Space.vmem Cert.KernelIdeal.S12544 EltTy.f32)
local notation "sA" => (Memref.whole Cert.KernelIdeal.cc1_scratch2 : Memref Cert.KernelIdeal.sig Kind.scVector Space.vmem Cert.KernelIdeal.S65536 EltTy.f32)
local notation "sR" => (Memref.whole Cert.KernelIdeal.cc1_scratch3 : Memref Cert.KernelIdeal.sig Kind.scVector Space.vmem Cert.KernelIdeal.S4096 EltTy.f32)

variable [FloatOps F]

section Tile

variable (sp : Spec F) (d : Dev nD) (L : grid1.Coords)

abbrev g0 : GSem nD τ sig := (thrV d L, .dma cc1_scoped0.sem)
abbrev g1 : GSem nD τ sig := (thrV d L, .dma cc1_scoped1.sem)
abbrev g2 : GSem nD τ sig := (thrV d L, .dma cc1_scoped2.sem)

omit [FloatOps F] in
/-- The tile's three copies' semaphores, apart from its others. -/
theorem ownSems0_V :
    (ownSems0 (thrV d L) : sProp 𝕄)
      = iprop(semVal (g0 d L) 0 ∗ semVal (g1 d L) 0 ∗ semVal (g2 d L) 0
          ∗ bigSep ((((ownCells (thrV d L)).erase (g0 d L)).erase (g1 d L)).erase (g2 d L)) fun g => semVal g 0) := by
  have hn (a b : SemLoc sig) (h : a ≠ b) : ((thrV d L, a) : GSem nD τ sig) ≠ (thrV d L, b) := fun e => h (Prod.mk.inj e).2
  have hm (a : SemLoc sig) (h : a.isScoped .scVector = true) : ((thrV d L, a) : GSem nD τ sig) ∈ ownCells (thrV d L) := mem_ownCells.mpr ⟨rfl, h⟩
  unfold SparseCore.Cfg.ownSems0
  rw [SparseCore.bigSep_erase' (hm (.dma cc1_scoped0.sem) (by decide)),
    SparseCore.bigSep_erase' (Finset.mem_erase.mpr ⟨hn (.dma cc1_scoped1.sem) (.dma cc1_scoped0.sem) (by decide), hm _ (by decide)⟩),
    SparseCore.bigSep_erase' (Finset.mem_erase.mpr ⟨hn (.dma cc1_scoped2.sem) (.dma cc1_scoped1.sem) (by decide),
      Finset.mem_erase.mpr ⟨hn (.dma cc1_scoped2.sem) (.dma cc1_scoped0.sem) (by decide), hm _ (by decide)⟩⟩)]

omit [FloatOps F] in
/-- The tile's four scratch buffers, apart from its others. -/
theorem ownBufs_V :
    (ownBufs (thrV d L) : sProp 𝕄)
      = iprop((∃ f, (thrV d L).loc cc1_scratch0 ↦{fullShare} f) ∗ (∃ f, (thrV d L).loc cc1_scratch1 ↦{fullShare} f)
          ∗ (∃ f, (thrV d L).loc cc1_scratch2 ↦{fullShare} f) ∗ (∃ f, (thrV d L).loc cc1_scratch3 ↦{fullShare} f)
          ∗ bigSep (((((ownRefs (τ := τ) (thrV d L).2).erase ((thrV d L).2.devRef cc1_scratch0)).erase
              ((thrV d L).2.devRef cc1_scratch1)).erase ((thrV d L).2.devRef cc1_scratch2)).erase ((thrV d L).2.devRef cc1_scratch3))
              fun b => iprop(∃ f, ((d, b) : Loc nD τ sig) ↦{fullShare} f)) := by
  have hn (a b : Ref sig .scVector) (h : a ≠ b) : (thrV d L).2.devRef a ≠ (thrV d L).2.devRef b := fun e => absurd (Proc.devRef_injective _ e) h
  unfold SparseCore.Cfg.ownBufs
  refine (SparseCore.bigSep_erase' (SparseCore.Cfg.mem_ownRefs_of_owner (p := (thrV d L).2) (b := (thrV d L).2.devRef cc1_scratch0) rfl)).trans ?_
  rw [SparseCore.bigSep_erase' (Finset.mem_erase.mpr ⟨hn cc1_scratch1 cc1_scratch0 (by decide),
      SparseCore.Cfg.mem_ownRefs_of_owner (p := (thrV d L).2) (b := (thrV d L).2.devRef cc1_scratch1) rfl⟩),
    SparseCore.bigSep_erase' (Finset.mem_erase.mpr ⟨hn cc1_scratch2 cc1_scratch1 (by decide), Finset.mem_erase.mpr ⟨hn cc1_scratch2 cc1_scratch0 (by decide),
      SparseCore.Cfg.mem_ownRefs_of_owner (p := (thrV d L).2) (b := (thrV d L).2.devRef cc1_scratch2) rfl⟩⟩),
    SparseCore.bigSep_erase' (Finset.mem_erase.mpr ⟨hn cc1_scratch3 cc1_scratch2 (by decide), Finset.mem_erase.mpr ⟨hn cc1_scratch3 cc1_scratch1 (by decide),
      Finset.mem_erase.mpr ⟨hn cc1_scratch3 cc1_scratch0 (by decide),
      SparseCore.Cfg.mem_ownRefs_of_owner (p := (thrV d L).2) (b := (thrV d L).2.devRef cc1_scratch3) rfl⟩⟩⟩)]

omit [FloatOps F] in
theorem pts_i (f : Buf (Elt F) (iLoc d)) :
    ((iSl L).view.loc (thrV d L) ↦[(iSl L).view.set]{fullShare} f : sProp 𝕄) = iLoc d ↦[(iSl L).view.set]{fullShare} f := rfl
omit [FloatOps F] in
theorem pts_v (f : Buf (Elt F) (vLoc d)) :
    ((vSl L).view.loc (thrV d L) ↦[(vSl L).view.set]{fullShare} f : sProp 𝕄) = vLoc d ↦[(vSl L).view.set]{fullShare} f := rfl
omit [FloatOps F] in
theorem pts_o (f : Buf (Elt F) (oLoc d)) :
    ((oSl L).view.loc (thrV d L) ↦[(oSl L).view.set]{fullShare} f : sProp 𝕄) = oLoc d ↦[(oSl L).view.set]{fullShare} f := rfl

omit [FloatOps F] in
theorem pts_sI (f : Buf (Elt F) ((thrV d L).loc cc1_scratch0)) :
    ((sI).view.loc (thrV d L) ↦{fullShare} f : sProp 𝕄) = (thrV d L).loc cc1_scratch0 ↦{fullShare} f := rfl
omit [FloatOps F] in
theorem pts_sV (f : Buf (Elt F) ((thrV d L).loc cc1_scratch1)) :
    ((sV).view.loc (thrV d L) ↦{fullShare} f : sProp 𝕄) = (thrV d L).loc cc1_scratch1 ↦{fullShare} f := rfl
omit [FloatOps F] in
theorem pts_sA (f : Buf (Elt F) ((thrV d L).loc cc1_scratch2)) :
    ((sA).view.loc (thrV d L) ↦{fullShare} f : sProp 𝕄) = (thrV d L).loc cc1_scratch2 ↦{fullShare} f := rfl
omit [FloatOps F] in
theorem pts_sR (f : Buf (Elt F) ((thrV d L).loc cc1_scratch3)) :
    ((sR).view.loc (thrV d L) ↦{fullShare} f : sProp 𝕄) = (thrV d L).loc cc1_scratch3 ↦{fullShare} f := rfl

set_option maxHeartbeats 4000000 in
/-- One tile's body, from its share to its share with its row at the partial sums of its indices and values; it leaves its
    scratch buffers and its semaphores as free as it found them, and records only waits of no rank. -/
theorem tile_body (hF : (K (F := F)).Facts) (hix : ∀ d j, (sp.ix d j : BitVec 32).toNat < 512) (O : CellTallies nD τ sig (HIx 1)) (W : Waits sig (HIx 1)) (hO : ∀ g, O g none = 0) :
    iprop(levAts (K (F := F)).L (K (F := F)).lev ∗ emp ∗ goAt sp d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__seg_body L iW (Memref.isWhole_whole _) vW (Memref.isWhole_whole _) oW (Memref.isWhole_whole _)
            sI (Memref.isWhole_whole _) sV (Memref.isWhole_whole _) sA (Memref.isWhole_whole _) sR (Memref.isWhole_whole _) cc1_scoped0 cc1_scoped1 cc1_scoped2)
          fun _ => iprop(tdAt sp d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc1__seg_body_eq_skeleton]; unfold cc1__seg_body_skel
  rw [k1_part2_eq_skeleton]; unfold k1_part2_skel
  rw [(K (F := F)).scopedBufs_V hF d (cV L) (jV L), SparseCore.Cfg.scopedSems0_V (Val := Elt F) d (cV L) (jV L), ownSems0_V, ownBufs_V]
  unfold goAt
  iintro ⟨#Hlv, -, ⟨Hi, ⟨%v, %hv, Hv⟩, %fo, Ho⟩, ⟨⟨%f5, H5⟩, ⟨%f6, H6⟩, ⟨%f7, H7⟩, ⟨%f8, H8⟩, Hbufs⟩, ⟨Hs0, Hs1, Hs2, Hsems⟩, HO⟩
  ihave Hmw := ((K (F := F)).mayWaits_none (thr := thrV d L) hO) $$ Hlv
  ihave Hi' := (Entails.of_eq (pts_i (F := F) d L _).symm) $$ Hi
  ihave Hv' := (Entails.of_eq (pts_v (F := F) d L _).symm) $$ Hv
  ihave Ho' := (Entails.of_eq (pts_o (F := F) d L _).symm) $$ Ho
  ihave H5' := (Entails.of_eq (pts_sI (F := F) d L _).symm) $$ H5
  ihave H6' := (Entails.of_eq (pts_sV (F := F) d L _).symm) $$ H6
  ihave H7' := (Entails.of_eq (pts_sA (F := F) d L _).symm) $$ H7
  ihave H8' := (Entails.of_eq (pts_sR (F := F) d L _).symm) $$ H8
  sl_exec
  have hli : View.write (Elt F) (sI).view f5 (tile_body.sl.dma0 sp d L) Finset.univ = (iSl L).view.read (Elt F) (sp.ix d) := View.write_whole_univ _ _ _
  have hlv : View.write (Elt F) (sV).view f6 (tile_body.sl.dma0_1 d L v) Finset.univ = (vSl L).view.read (Elt F) v := View.write_whole_univ _ _ _
  rw [hli, hlv]
  generalize hgi : (iSl L).view.read (Elt F) (sp.ix d) = li
  generalize hgv : (vSl L).view.read (Elt F) v = lv
  have hli' : ∀ j, (li j : BitVec 32).toNat < 512 := fun j => by rw [← hgi]; exact hix d _
  rw [wp_bind]
  sl_for (inv1 (F := F) d L) $$ [H7']
  case region => intro k _; exact trip1 d L k
  · unfold inv1
    iexists f7; isplitr
    · ipureintro; intro j hj; omega
    · iexact H7'
  iintro %_ HI
  unfold inv1
  icases HI with ⟨%fz, %hfz, H7'⟩
  obtain rfl : fz = accN li lv 0 := funext fun j => hfz j (lt_of_lt_of_eq (j 0).isLt (congrArg (16 * ·) trips1).symm)
  sl_for (inv2 (F := F) d L li lv) $$ [H7' H5' H6']
  case region => intro k _; exact trip2 d L li lv hli' k
  · unfold inv2
    isplitl [H7']; · iexact H7'
    isplitl [H5']; · iexact H5'
    iexact H6'
  iintro %_ HI
  unfold inv2
  icases HI with ⟨H7', H5', H6'⟩
  sl_for (inv3 (F := F) d L (accN li lv k1_t2_loop.trips)) $$ [H7' H8']
  case region => intro k _; exact trip3 d L _ k
  · unfold inv3
    isplitl [H7']; · iexact H7'
    iexists f8; isplitr
    · ipureintro; intro j hj; omega
    · iexact H8'
  iintro %_ HI
  unfold inv3
  icases HI with ⟨H7', %fr, %hfr, H8'⟩
  obtain rfl : fr = segRow li lv := funext fun j => hfr j (lt_of_lt_of_eq (j 0).isLt (congrArg (16 * ·) trips3).symm)
  unfold tile_body.sl.prog.cont_3
  rw [Prog.pure_eq_ret, wp_ret]; imodintro
  sl_exec
  rw [wp_ret]; imodintro
  unfold tdAt
  ihave Hi := (Entails.of_eq (pts_i (F := F) d L _)) $$ Hi'
  ihave Hv := (Entails.of_eq (pts_v (F := F) d L _)) $$ Hv'
  ihave Ho := (Entails.of_eq (pts_o (F := F) d L _)) $$ Ho'
  isplitl [Hi Hv Ho]
  · isplitl [Hi]; · iexact Hi
    iexists v
    isplitr; · ipureintro; exact hv
    isplitl [Hv]; · iexact Hv
    iexists (oSl L).view.writes (Elt F) fo [⟨Rect.whole S4096, segRow li lv⟩]
    isplitr
    · ipureintro
      rw [hgi, hgv]
      exact View.read_writes_whole _ _ _
    · iexact Ho
  isplitl [H5' H6' H7' H8' Hbufs]
  · isplitl [H5']; · iexists li; iexact H5'
    isplitl [H6']; · iexists lv; iexact H6'
    isplitl [H7']; · iexists (accN li lv k1_t2_loop.trips); iexact H7'
    isplitl [H8']; · iexists (segRow li lv); iexact H8'
    iexact Hbufs
  isplitl [Hs0 Hs1 Hs2 Hsems]
  · isplitl [Hs0]; · iexact Hs0
    isplitl [Hs1]; · iexact Hs1
    isplitl [Hs2]; · iexact Hs2
    iexact Hsems
  iexists (insert (SemLoc.dma cc1_scoped2.sem, (default : HIx 1)) (insert (SemLoc.dma cc1_scoped1.sem, (default : HIx 1)) (insert (SemLoc.dma cc1_scoped0.sem, (default : HIx 1)) W)))
  isplitr
  · ipureintro
    intro p hp
    rcases Finset.mem_insert.mp hp with rfl | hp; · exact Or.inr rfl
    rcases Finset.mem_insert.mp hp with rfl | hp; · exact Or.inr rfl
    rcases Finset.mem_insert.mp hp with rfl | hp; · exact Or.inr rfl
    exact Or.inl hp
  · iexact HO

end Tile

theorem defs₀_vector (c : Fin τ.nSC) (s : Fin τ.nSub) :
    defs₀ (F := F) (.scVector c s) 1 ()
      = SparseCore.onTile hcore1 hsub1 (fun c s => cc1__seg_body (coordsV c s)
          iW (Memref.isWhole_whole _) vW (Memref.isWhole_whole _) oW (Memref.isWhole_whole _)
          sI (Memref.isWhole_whole _) sV (Memref.isWhole_whole _) sA (Memref.isWhole_whole _) sR (Memref.isWhole_whole _)
          cc1_scoped0 cc1_scoped1 cc1_scoped2) ⟨⟩ c s := rfl

omit [FloatOps F] in
/-- A tile's body records waits of no rank, which the obligation allows beside the call's own. -/
theorem waits_none {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
/-- The call's obligation for each tile. -/
theorem tileObl (sp : Spec F) (hF : (K (F := F)).Facts) (hix : ∀ d j, (sp.ix d j : BitVec 32).toNat < 512) :
    (K (F := F)).TileObl (D (F := F)) 𝒱 (P sp) v₀ 0 := by
  intro d c i O W hO _ _
  simp only [show (P sp).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body sp d (coordsV ⟨_, hc.1⟩ ⟨_, hc.2⟩) hF hix O W hO).trans (wp_mono frame _ _ fun _ => waits_none)

/-- A SparseCore's share is its tiles' shares, going out and coming back. -/
theorem vecSplit (sp : Spec F) : (K (F := F)).VecSplit' (P sp) 0 := by
  intro d c
  show goCore sp d c ⊢ |={Set.univ}=> iprop(goCore sp d c ∗ (tdCore sp d c -∗ tdCore sp d c))
  iintro H; imodintro
  isplitl [H]; · iexact H
  iintro H; iexact H

end Cert.Proof.Seg
end
-- ==== Proof.TcBodies.lean ====
/-
  The two TensorCore kernels' bodies on any staging buffers: what each leaves in its outputs' buffers, from what it finds
  in its inputs'.
-/
module

public import proofs.«01_k».proof.Proof.Setup
public import proofs.«01_k».proof.Proof.Gen.KernelIdeal.Skeleton
public import proofs.«01_k».proof.Proof.Gen.KernelIdeal.Points
public import Idealize.ShloMosaic.Lib.VecWindow
public import Idealize.ShloMosaic.Lib.Tactic

@[expose] public section

noncomputable section

namespace Cert.Proof.Seg

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- Offsets zero on both axes. -/
theorem zero2 : (![0, 0] : Fin 2 → Nat) = fun _ => 0 := funext fun a => by fin_cases a <;> rfl

/-- Loading all of a buffer reads it. -/
theorem readAt_all {cs : Space} {d : Fin 2 → Nat} {e : EltTy} (m : Memref sig .tc cs ⟨2, d⟩ e) (inb) (f : m.view.ty.Contents (Elt F)) :
    m.view.readAt (Elt F) (Rect.unit (s := ⟨2, d⟩) ![0, 0] d inb).toLoadRect f = m.view.read (Elt F) f := by
  rw [View.readAt_eq_ld]; exact View.ld_unit_zero (S := ⟨2, d⟩) zero2 inb _

/-- Storing to all of a buffer leaves what was stored. -/
theorem read_store_all {cs : Space} {d : Fin 2 → Nat} {e : EltTy} (m : Memref sig .tc cs ⟨2, d⟩ e) (inb) (f : m.view.ty.Contents (Elt F))
    (w : (⟨2, d⟩ : Shape).Idx → Elt F e) :
    m.view.read (Elt F) (m.view.writes (Elt F) f [⟨Rect.unit (s := ⟨2, d⟩) ![0, 0] d inb, w⟩]) = w := by
  funext y
  have h := View.read_writes_cons_emb m.view f (Rect.unit (s := ⟨2, d⟩) ![0, 0] d inb) w [] y
  rwa [show (Rect.unit (s := ⟨2, d⟩) ![0, 0] d inb).emb y = y from funext fun a => Fin.ext (by
    rw [Rect.emb_unit_full])] at h

variable [FloatOps F]

/-- The second kernel's body: the output's buffer ends at the sum of the input's rows. -/
theorem red_body (c : Dev nD) (m0 : Memref sig .tc .vmem S32x4096 .f32) (h0 : m0.IsWhole) (m1 : Memref sig .tc .vmem S1x4096 .f32) (h1 : m1.IsWhole)
    (X0 : S32x4096.Idx → Elt F .f32) (X1 : S1x4096.Idx → Elt F .f32) :
    (iprop(owns (c : Thread nD τ) m0 fullShare X0 ∗ owns (c : Thread nD τ) m1 fullShare X1) : sProp 𝕄)
      ⊢ wp frame (wpE (defs₀ (F := F)) 𝒱₀ c none) Set.univ (cc2__red_body m0 h0 m1 h1)
          fun _ => iprop(owns (c : Thread nD τ) m0 fullShare X0 ∗ owns (c : Thread nD τ) m1 fullShare (k2_pay1 X0)) := by
  rw [cc2__red_body_eq_skeleton]; unfold cc2__red_body_skel
  unfold owns
  iintro ⟨⟨%f0, %hf0, H0⟩, ⟨%f1, %hf1, H1⟩⟩
  sl_exec
  rw [wp_ret]; imodintro
  isplitl [H0]
  · iexists f0; isplitr
    · ipureintro; exact hf0
    iexact H0
  iexists m1.view.writes (Elt F) f1 [⟨Rect.unit ![0, 0] S1x4096.size inb_S1x4096_S1x4096_0_0,
    k2_pay1 (View.readAt (Elt F) m0.view (Rect.unit ![0, 0] S32x4096.size inb_S32x4096_S32x4096_0_0).toLoadRect f0)⟩]
  isplitr
  · ipureintro
    refine (read_store_all m1 _ f1 _).trans ?_
    rw [readAt_all m0, hf0]
  iexact H1

/-- The first kernel's body: the outputs' buffers end at the masked results of the two matrix products. -/
theorem mlp_body (c : Dev nD) (i : grid0.Coords) (m1 : Memref sig .tc .vmem S1024x1152 .f32) (h1 : m1.IsWhole)
    (m2 : Memref sig .tc .vmem S1152x3456 .bf16) (h2 : m2.IsWhole) (m3 : Memref sig .tc .vmem S1x3456 .f32) (h3 : m3.IsWhole)
    (m4 : Memref sig .tc .vmem S3456x16 .bf16) (h4 : m4.IsWhole) (m5 : Memref sig .tc .vmem S1x16 .f32) (h5 : m5.IsWhole)
    (m6 : Memref sig .tc .vmem S1024x8 .f32) (h6 : m6.IsWhole) (m7 : Memref sig .tc .vmem S1024x3 .f32) (h7 : m7.IsWhole)
    (X1 : S1024x1152.Idx → Elt F .f32) (X2 : S1152x3456.Idx → Elt F .bf16) (X3 : S1x3456.Idx → Elt F .f32) (X4 : S3456x16.Idx → Elt F .bf16)
    (X5 : S1x16.Idx → Elt F .f32) (X6 : S1024x8.Idx → Elt F .f32) (X7 : S1024x3.Idx → Elt F .f32) :
    (iprop(owns (c : Thread nD τ) m1 fullShare X1 ∗ owns (c : Thread nD τ) m2 fullShare X2 ∗ owns (c : Thread nD τ) m3 fullShare X3
        ∗ owns (c : Thread nD τ) m4 fullShare X4 ∗ owns (c : Thread nD τ) m5 fullShare X5 ∗ owns (c : Thread nD τ) m6 fullShare X6
        ∗ owns (c : Thread nD τ) m7 fullShare X7) : sProp 𝕄)
      ⊢ wp frame (wpE (defs₀ (F := F)) 𝒱₀ c none) Set.univ (cc0__mlp_body i m1 h1 m2 h2 m3 h3 m4 h4 m5 h5 m6 h6 m7 h7)
          fun _ => iprop(owns (c : Thread nD τ) m1 fullShare X1 ∗ owns (c : Thread nD τ) m2 fullShare X2 ∗ owns (c : Thread nD τ) m3 fullShare X3
            ∗ owns (c : Thread nD τ) m4 fullShare X4 ∗ owns (c : Thread nD τ) m5 fullShare X5
            ∗ owns (c : Thread nD τ) m6 fullShare (k0_pay2 i X1 X2 X3 X4 X5) ∗ owns (c : Thread nD τ) m7 fullShare (k0_pay3 i X1 X2 X3 X4 X5)) := by
  rw [cc0__mlp_body_eq_skeleton]; unfold cc0__mlp_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩
  sl_exec
  rw [wp_ret]; imodintro
  subst hf1 hf2 hf3 hf4 hf5
  simp only [readAt_all]
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    rotate_left
    · iexact H6
    ipureintro
    refine (read_store_all m6 _ f6 _).trans ?_
    simp only [readAt_all]
  iexists _; isplitr
  rotate_left
  · iexact H7
  ipureintro
  refine (read_store_all m7 _ f7 _).trans ?_
  simp only [readAt_all]

end Cert.Proof.Seg
end
-- ==== Proof.TcRegions.lean ====
/-
  The two TensorCore calls as regions of @main: the proof data of their pipelines over any contents of the unscoped
  buffers, the obligation of each body, and each region as a step from one valuation of those buffers to another.
-/
module

public import proofs.«01_k».proof.Proof.TcBodies
public import Idealize.ShloMosaic.Lib.Pipeline.Frame
public import Idealize.ShloMosaic.Lib.Pipeline.FrameTail
public import Idealize.ShloMosaic.Lib.Pipeline.RegionsLoop

@[expose] public section

noncomputable section

namespace Cert.Proof.Seg

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo (held)

variable {F : FTy → Type} [FloatOps F]

local notation "𝕄" => MT nD τ sig (HIx 1) (Elt F) ℕ UU ℕ

/-- What window `w` of the first call's pipeline holds after the fetch at point `t` over contents `e`. -/
abbrev ft0 (V : Valuation τ sig (Elt F)) (w : Fin 7) (t : Fin cfg0.N) (e : (cfg0.win w).block.Idx → Elt F (cfg0.win w).elt) :
    (cfg0.win w).block.Idx → Elt F (cfg0.win w).elt :=
  (cfg0.win w).fill (cfg0.grid.coords t) e (((cfg0.win w).blk t).view.read (Elt F) (V (Proc.devRef .tc (Pipeline.arrRef cfg0.spec w))))

/-- What a window of the second call's pipeline holds after the fetch. -/
abbrev ft2 (V : Valuation τ sig (Elt F)) (w : Fin 2) (t : Fin cfg2.N) (e : (cfg2.win w).block.Idx → Elt F (cfg2.win w).elt) :
    (cfg2.win w).block.Idx → Elt F (cfg2.win w).elt :=
  (cfg2.win w).fill (cfg2.grid.coords t) e (((cfg2.win w).blk t).view.read (Elt F) (V (Proc.devRef .tc (Pipeline.arrRef cfg2.spec w))))

/-- What the first call's body leaves: the inputs as found; each output, its payload of the inputs' blocks. -/
def after0 (V : Valuation τ sig (Elt F)) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun t _ X => ∃ e0 e1 e2 e3 e4, X = k0_pay2 (grid0.coords t) (ft0 V 0 t e0) (ft0 V 1 t e1) (ft0 V 2 t e2) (ft0 V 3 t e3) (ft0 V 4 t e4)
  | 6 => fun t _ X => ∃ e0 e1 e2 e3 e4, X = k0_pay3 (grid0.coords t) (ft0 V 0 t e0) (ft0 V 1 t e1) (ft0 V 2 t e2) (ft0 V 3 t e3) (ft0 V 4 t e4)
  | ⟨_ + 7, h⟩ => absurd h (Nat.not_lt.2 (Nat.le_add_left _ _))

/-- What the second call's body leaves. -/
def after2 (V : Valuation τ sig (Elt F)) : (w : Fin cfg2.W) → Fin cfg2.N → (Y X : (cfg2.win w).block.Idx → Elt F (cfg2.win w).elt) → Prop
  | 0 => fun _ Y X => X = Y
  | 1 => fun t _ X => ∃ e0, X = k2_pay1 (ft2 V 0 t e0)
  | ⟨_ + 2, h⟩ => absurd h (Nat.not_lt.2 (Nat.le_add_left _ _))

/-- The pairs that the TensorCore's waits have recorded when `n` SparseCore calls are behind it. -/
def recs (n : ℕ) (c : Dev nD) : Set (SemLoc sig × HIx 1) := {p | (K (F := F)).lev (c.tc, p.1) p.2 ≤ 8 * SparseCore.Cfg.Blocks.fst 1 1 n}

/-- The two pipelines' proof data, the unscoped buffers at `V`, `n` SparseCore calls behind the core. -/
def rdats (V : Dev nD → Valuation τ sig (Elt F)) (n : ℕ) : (p : Fin 2) → (c : Dev nD) → Pipeline.RDat τ (Elt F) (HIx 1) ℕ UU ℕ (cfgs p) c
  | 0 => fun c =>
    { A := fun w => V c (Proc.devRef .tc (Pipeline.arrRef cfg0.spec w))
      after := after0 (V c)
      Φ := fun _ => iprop(Pipeline.scopedRest spec0 c)
      q := fun _ => fullShare
      owed := fun _ => (K (F := F)).Otc c n
      recorded := fun _ => recs (F := F) n c }
  | 1 => fun c =>
    { A := fun w => V c (Proc.devRef .tc (Pipeline.arrRef cfg2.spec w))
      after := after2 (V c)
      Φ := fun _ => iprop(Pipeline.scopedRest spec2 c)
      q := fun _ => fullShare
      owed := fun _ => (K (F := F)).Otc c n
      recorded := fun _ => recs (F := F) n c }
  | ⟨_ + 2, h⟩ => absurd h (Nat.not_lt.2 (Nat.le_add_left _ _))

/-- An input that is fetched at the first point only, its block the same at every point, and left as found holds the
    block at every point. -/
theorem finds_const {cfg : Pipeline.Cfg sig Λ₀} {c : Dev nD} (rd : Pipeline.RDat τ (Elt F) (HIx 1) ℕ UU ℕ cfg c) [∀ e, Nonempty (Elt F e)] (w : Fin cfg.W)
    (hafter : ∀ t Y X, rd.after w t Y X → X = Y) (hflush : ∀ t, (cfg.win w).flush t = false)
    (hzero : ∀ t : Fin cfg.N, t.val = 0 → (cfg.win w).fetch t = true)
    (hindex : ∀ t t', (cfg.win w).index t = (cfg.win w).index t')
    (hclip : ∀ t t', (cfg.win w).clip (cfg.grid.coords t) = (cfg.win w).clip (cfg.grid.coords t')) :
    ∀ (n : ℕ) (t : Fin cfg.N), t.val = n → ∀ X, rd.Finds w t X → ∃ d, X = rd.fetched w t d := by
  intro n
  induction n with
  | zero => intro t ht X h; exact (rd.finds_of_fetch (hzero t ht) X).mp h
  | succ n ih =>
    intro t ht X h
    by_cases hf : (cfg.win w).fetch t = true
    · exact (rd.finds_of_fetch hf X).mp h
    · rcases (rd.finds_of_pos (Bool.eq_false_iff.mpr hf) (by omega) X).mp h with h | ⟨Y, hY, hX⟩
      · rw [hflush] at h; exact absurd h Bool.false_ne_true
      · obtain ⟨d, rfl⟩ := ih ⟨t.val - 1, _⟩ (by show t.val - 1 = n; omega) Y hY
        exact ⟨d, (hafter _ _ _ hX).trans (rd.fetched_congr w (hindex _ _) (hclip _ _) d)⟩

variable [∀ e, Nonempty (Elt F e)]

theorem hbody0 (V : Dev nD → Valuation τ sig (Elt F)) (n : ℕ) (c : Dev nD) :
    (rdats V n 0 c).BodyObligation (defs₀ (F := F)) 𝒱₀ (none : HIx 1) Set.univ := by
  intro t Y hY
  have h0 : ∃ d, Y 0 = ft0 (V c) 0 t d := ((rdats V n 0 c).finds_of_fetch (fetch0_0 t) _).mp (hY 0)
  have h1 : ∃ d, Y 1 = ft0 (V c) 1 t d := finds_const (rdats V n 0 c) 1 (fun _ _ _ h => h) (fun _ => rfl)
    (fun t ht => (fetch0_1 t).mpr (by rw [ht])) (fun _ _ => rfl) (fun _ _ => rfl) _ t rfl _ (hY 1)
  have h2 : ∃ d, Y 2 = ft0 (V c) 2 t d := finds_const (rdats V n 0 c) 2 (fun _ _ _ h => h) (fun _ => rfl)
    (fun t ht => (fetch0_2 t).mpr (by rw [ht])) (fun _ _ => rfl) (fun _ _ => rfl) _ t rfl _ (hY 2)
  have h3 : ∃ d, Y 3 = ft0 (V c) 3 t d := finds_const (rdats V n 0 c) 3 (fun _ _ _ h => h) (fun _ => rfl)
    (fun t ht => (fetch0_3 t).mpr (by rw [ht])) (fun _ _ => rfl) (fun _ _ => rfl) _ t rfl _ (hY 3)
  have h4 : ∃ d, Y 4 = ft0 (V c) 4 t d := finds_const (rdats V n 0 c) 4 (fun _ _ _ h => h) (fun _ => rfl)
    (fun t ht => (fetch0_4 t).mpr (by rw [ht])) (fun _ _ => rfl) (fun _ _ => rfl) _ t rfl _ (hY 4)
  obtain ⟨e0, h0⟩ := h0; obtain ⟨e1, h1⟩ := h1; obtain ⟨e2, h2⟩ := h2; obtain ⟨e3, h3⟩ := h3; obtain ⟨e4, h4⟩ := h4
  have hb := mlp_body (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (Y 0) (Y 1) (Y 2) (Y 3) (Y 4) (Y 5) (Y 6)
  show (iprop((rdats V n 0 c).Φ t.castSucc ∗ (rdats V n 0 c).owesAt none t.castSucc
      ∗ bigSep Finset.univ fun w : Fin 7 => owns (c : Thread nD τ) ((cfg0.win w).stage (cfg0.slots t w)) fullShare (Y w)) : sProp 𝕄)
    ⊢ wp frame (wpE (defs₀ (F := F)) 𝒱₀ c none) Set.univ (bodyAt0 t) fun _ => iprop((rdats V n 0 c).Φ t.castSucc ∗ (rdats V n 0 c).owesAt none t.castSucc
      ∗ bigSep Finset.univ fun w : Fin 7 => iprop(∃ X, ⌜after0 (V c) w t (Y w) X⌝ ∗ owns (c : Thread nD τ) ((cfg0.win w).stage (cfg0.slots t w)) fullShare X))
  rw [bigSep_W0, bigSep_W0]
  refine (show _ ⊢ iprop(((rdats V n 0 c).Φ t.castSucc ∗ (rdats V n 0 c).owesAt none t.castSucc) ∗ _) from BI.sep_assoc').trans
    ((sep_mono_right hb).trans ((wp_frame_l _ _ _).trans (wp_mono _ _ _ fun _ => ?_)))
  iintro ⟨⟨HΦ, HO⟩, H0, H1, H2, H3, H4, H5, H6⟩
  isplitl [HΦ]; · iexact HΦ
  isplitl [HO]; · iexact HO
  isplitl [H0]
  · iexists (Y 0); isplitr
    · ipureintro; rfl
    iexact H0
  isplitl [H1]
  · iexists (Y 1); isplitr
    · ipureintro; rfl
    iexact H1
  isplitl [H2]
  · iexists (Y 2); isplitr
    · ipureintro; rfl
    iexact H2
  isplitl [H3]
  · iexists (Y 3); isplitr
    · ipureintro; rfl
    iexact H3
  isplitl [H4]
  · iexists (Y 4); isplitr
    · ipureintro; rfl
    iexact H4
  isplitl [H5]
  · iexists (k0_pay2 (grid0.coords t) (Y 0) (Y 1) (Y 2) (Y 3) (Y 4)); isplitr
    · ipureintro; rw [h0, h1, h2, h3, h4]; exact ⟨e0, e1, e2, e3, e4, rfl⟩
    iexact H5
  iexists (k0_pay3 (grid0.coords t) (Y 0) (Y 1) (Y 2) (Y 3) (Y 4)); isplitr
  · ipureintro; rw [h0, h1, h2, h3, h4]; exact ⟨e0, e1, e2, e3, e4, rfl⟩
  iexact H6

theorem hbody2 (V : Dev nD → Valuation τ sig (Elt F)) (n : ℕ) (c : Dev nD) :
    (rdats V n 1 c).BodyObligation (defs₀ (F := F)) 𝒱₀ (none : HIx 1) Set.univ := by
  intro t Y hY
  obtain ⟨e0, h0⟩ : ∃ d, Y 0 = ft2 (V c) 0 t d := ((rdats V n 1 c).finds_of_fetch (fetch2_0 t) _).mp (hY 0)
  have hb := red_body (F := F) c (win2_0.stage (cfg2.slots t 0)) (hstage2_0 0) (win2_1.stage (cfg2.slots t 1)) (hstage2_1 0) (Y 0) (Y 1)
  show (iprop((rdats V n 1 c).Φ t.castSucc ∗ (rdats V n 1 c).owesAt none t.castSucc
      ∗ bigSep Finset.univ fun w : Fin 2 => owns (c : Thread nD τ) ((cfg2.win w).stage (cfg2.slots t w)) fullShare (Y w)) : sProp 𝕄)
    ⊢ wp frame (wpE (defs₀ (F := F)) 𝒱₀ c none) Set.univ (bodyAt2 t) fun _ => iprop((rdats V n 1 c).Φ t.castSucc ∗ (rdats V n 1 c).owesAt none t.castSucc
      ∗ bigSep Finset.univ fun w : Fin 2 => iprop(∃ X, ⌜after2 (V c) w t (Y w) X⌝ ∗ owns (c : Thread nD τ) ((cfg2.win w).stage (cfg2.slots t w)) fullShare X))
  rw [bigSep_W2, bigSep_W2]
  refine (show _ ⊢ iprop(((rdats V n 1 c).Φ t.castSucc ∗ (rdats V n 1 c).owesAt none t.castSucc) ∗ _) from BI.sep_assoc').trans
    ((sep_mono_right hb).trans ((wp_frame_l _ _ _).trans (wp_mono _ _ _ fun _ => ?_)))
  iintro ⟨⟨HΦ, HO⟩, H0, H1⟩
  isplitl [HΦ]; · iexact HΦ
  isplitl [HO]; · iexact HO
  isplitl [H0]
  · iexists (Y 0); isplitr
    · ipureintro; rfl
    iexact H0
  iexists (k2_pay1 (Y 0)); isplitr
  · ipureintro; rw [h0]; exact ⟨e0, rfl⟩
  iexact H1

/-- Each pipeline's facts of its layout. -/
theorem launchOf : ∀ p : Fin 2, Pipeline.LaunchFacts (nD := nD) (τ := τ) cfgs p
  | 0 => launch0
  | 1 => launch2
  | ⟨_ + 2, h⟩ => absurd h (Nat.not_lt.2 (Nat.le_add_left _ _))

abbrev adm : (p : Fin 2) → (pcfgs (F := F) p).Adm := fun p => (cfgs p).toPCfg_adm

theorem share_full (V : Dev nD → Valuation τ sig (Elt F)) (n : ℕ) (p : Fin 2) (c : Dev nD) (w) : (rdats V n p c).share w = fullShare := by
  match p with
  | 0 => exact ite_self _
  | 1 => exact ite_self _

theorem owed_eq (V : Dev nD → Valuation τ sig (Elt F)) (n : ℕ) (p : Fin 2) (c : Dev nD) (t) : (rdats V n p c).owed t = (K (F := F)).Otc c n := by
  match p with
  | 0 => rfl
  | 1 => rfl

theorem recorded_eq (V : Dev nD → Valuation τ sig (Elt F)) (n : ℕ) (p : Fin 2) (c : Dev nD) (t) : (rdats V n p c).recorded t = recs (F := F) n c := by
  match p with
  | 0 => rfl
  | 1 => rfl

theorem Φ_eq (V : Dev nD → Valuation τ sig (Elt F)) (n : ℕ) (p : Fin 2) (c : Dev nD) (t) :
    (rdats V n p c).Φ t = Pipeline.scopedRest (Val := Elt F) (Ix := HIx 1) (Name := ℕ) (U := UU) (Lvl := ℕ) (cfgs p).spec c := by
  match p with
  | 0 => rfl
  | 1 => rfl

theorem A_eq (V : Dev nD → Valuation τ sig (Elt F)) (n : ℕ) (p : Fin 2) (c : Dev nD) (w) :
    (rdats V n p c).A w = V c (Proc.devRef .tc (Pipeline.arrRef (cfgs p).spec w)) := by
  match p with
  | 0 => rfl
  | 1 => rfl

/-- What a region leaves of the unscoped buffers: each array of the pipeline at something it may hold after every write-back,
    every other buffer as it was. -/
def Left (V : Dev nD → Valuation τ sig (Elt F)) (n : ℕ) (p : Fin 2) (c : Dev nD) (V' : Valuation τ sig (Elt F)) : Prop :=
  (∀ w, (rdats V n p c).ArrAt w (cfgs p).N (V' (Proc.devRef .tc (Pipeline.arrRef (cfgs p).spec w))))
    ∧ ∀ b : Ref sig .tc, (∀ w, b ≠ Pipeline.arrRef (cfgs p).spec w) → V' (Proc.devRef .tc b) = V c (Proc.devRef .tc b)

/-- What the core holds of its debts between SparseCore calls. -/
abbrev owesR (n : ℕ) (c : Dev nD) : sProp 𝕄 :=
  iprop(∃ W, ⌜(K (F := F)).WBelow (T c) W (8 * SparseCore.Cfg.Blocks.fst 1 1 n)⌝ ∗ owes (T c) ((K (F := F)).Otc c n) W)

theorem Otc_none (n : ℕ) (c : Dev nD) (g : GSem nD τ sig) : ((K (F := F)).Otc c n : CellTallies nD τ sig (HIx 1)) g none = 0 := by
  by_contra h
  have := (K (F := F)).lev_of_Otc_pos (Nat.pos_of_ne_zero h)
  rw [SparseCore.Cfg.lev_none] at this
  omega

/-- A TensorCore call as a step of @main from the valuation `V` of the unscoped buffers to one it may leave. -/
def region (V : Dev nD → Valuation τ sig (Elt F)) (n : ℕ) (p : Fin 2) :
    Pipeline.RDat.RegionSeg (pcfgs (F := F)) adm (rdats V n) (none : HIx 1) defs₀ 𝒱₀ (K (F := F)).L (K (F := F)).lev p where
  win := (launchOf p).win.to₀
  block_pos := (launchOf p).block_pos
  stage_whole := (launchOf p).stage_whole
  K := PEmpty
  osem := fun k => k.elim
  ho := Pipeline.OwnSemFacts.none _
  hbody := match p with
    | 0 => hbody0 V n
    | 1 => hbody2 V n
  hwaits := fun c => Pipeline.PerCore.RDat.cellsWaits_intro (fun _ => cfgs) (rdats V n) (none : HIx 1) p c fun w s t => by
    rw [owed_eq]
    exact (K (F := F)).mayWait_none _ (Otc_none n c)
  pre := fun c => iprop(held (c.tc : Thread nD τ) (Pipeline.ucRefs τ sig) (V c) ∗ owesR n c)
  post := fun c => iprop((∃ V', ⌜Left V n p c V'⌝ ∗ held (c.tc : Thread nD τ) (Pipeline.ucRefs τ sig) V') ∗ owesR n c)
  X := fun _ => iprop(emp)
  Y := fun _ => iprop(emp)
  Z := fun c => Pipeline.unscopedRest (Ix := HIx 1) (Name := ℕ) (U := UU) (Lvl := ℕ) (cfgs p).spec c (fun b => V c (Proc.devRef .tc b))
  hentry := fun c => by
    rw [Pipeline.ownSems0_none, show held (c.tc : Thread nD τ) (Pipeline.ucRefs τ sig) (V c) = unscopedBufs c (fun b => V c (Proc.devRef .tc b))
      from (Pipeline.unscopedBufs_held (Ix := HIx 1) (Name := ℕ) (U := UU) (Lvl := ℕ) c (V c)).symm]
    have hsplit := Pipeline.PerCore.RDat.arrays_of_unscopedBufs (p := p) (pcfgs (F := F)) (fun _ => adm) (rdats V n) (launchOf p).win (launchOf p).arr_whole c (share_full V n p c)
      (fun b => V c (Proc.devRef .tc b)) (fun w => A_eq V n p c w)
    iintro ⟨⟨Hub, %W, %hW, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.RDat.owesAt Pipeline.owesWithin
      rw [owed_eq]
      iexists W; isplitr
      · ipureintro
        intro q hq
        refine Or.inl ?_
        rw [recorded_eq]
        exact hW q hq
      iexact HO
    isplitr; · iempintro
    iexact Hrest
  hin := fun c => by
    rw [Φ_eq]
    iintro ⟨-, -, Hr⟩
    iexact Hr
  hout := fun c => by
    rw [Φ_eq, Pipeline.ownSems0_none]
    iintro Hr
    isplitr; · iempintro
    isplitr; · iempintro
    iexact Hr
  hexit := fun c => by
    have hA := Pipeline.PerCore.RDat.arraysAt_eq (p := p) (pcfgs (F := F)) (fun _ => adm) (rdats V n) c (launchOf p).arr_whole (share_full V n p c) (cfgs p).N
    iintro ⟨Ha, HO, -, Hrest⟩
    ihave Ha := (Entails.of_eq hA) $$ Ha
    ihave Ha := bigSep_exists_pi $$ Ha
    icases Ha with ⟨%G, Ha⟩
    ihave Ha := (bigSep_pure_sep Finset.univ _ _) $$ Ha
    icases Ha with ⟨%hG, Ha⟩
    imodintro
    isplitl [Ha Hrest]
    · obtain ⟨af, -, haf⟩ := Pipeline.RDat.ArrAt.exists_exact_all (fun w => hG w (Finset.mem_univ w))
      let V' : Valuation τ sig (Elt F) := Pipeline.afterRegion ((rdats V n p c).withAfter af) (V c)
      have harr : ∀ w, V' (Proc.devRef .tc (Pipeline.arrRef (cfgs p).spec w)) = G w := fun w =>
        (Pipeline.afterRegion_arr ((rdats V n p c).withAfter af) (V c) (launchOf p).win.arr_inj w).trans (haf w).symm
      have hoff : ∀ b : Ref sig .tc, (∀ w, b ≠ Pipeline.arrRef (cfgs p).spec w) → V' (Proc.devRef .tc b) = V c (Proc.devRef .tc b) := fun b hb =>
        Pipeline.afterRegion_of_not_arr ((rdats V n p c).withAfter af) (V c) hb
      iexists V'
      isplitr
      · ipureintro
        exact ⟨fun w => (harr w).symm ▸ hG w (Finset.mem_univ w), hoff⟩
      rw [show held (c.tc : Thread nD τ) (Pipeline.ucRefs τ sig) V' = unscopedBufs c (fun b => V' (Proc.devRef .tc b))
        from (Pipeline.unscopedBufs_held (Ix := HIx 1) (Name := ℕ) (U := UU) (Lvl := ℕ) c V').symm,
        Pipeline.unscopedBufs_split cfgs p (launchOf p).win.arr_unscoped (launchOf p).win.arr_inj c (fun b => V' (Proc.devRef .tc b))]
      isplitl [Ha]
      · iapply (Entails.of_eq (bigSep_congr (s := Finset.univ) fun w _ => by rw [harr w]))
        iexact Ha
      · iapply (Entails.of_eq (show (Pipeline.unscopedRest (cfgs p).spec c (fun b => V c (Proc.devRef .tc b)) : sProp 𝕄)
            = Pipeline.unscopedRest (cfgs p).spec c (fun b => V' (Proc.devRef .tc b)) from
          bigSep_congr fun b hb => by
            beta_reduce; rw [hoff b fun w e => (Finset.mem_sdiff.mp hb).2 (e ▸ Finset.mem_image.mpr ⟨w, Finset.mem_univ _, rfl⟩)]))
        iexact Hrest
    · icases HO with ⟨%W, %hW, HO⟩
      iexists W; isplitr
      · ipureintro
        intro q hq
        rcases hW hq with h | ⟨w, s, rfl⟩
        · rw [recorded_eq] at h; exact h
        · show (K (F := F)).lev _ none ≤ _
          rw [SparseCore.Cfg.lev_none]; exact Nat.zero_le _
      rw [← owed_eq V n p c (Fin.last _)]
      iexact HO

end Cert.Proof.Seg
end
-- ==== Proof.Split.lean ====
/-
  The SparseCore call's three arrays cut into the tiles' parts and put together again.
-/
module

public import proofs.«01_k».proof.Proof.Setup

@[expose] public section

noncomputable section

namespace Cert.Proof.Seg

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A tile's number among the 32. -/
abbrev tileNo (L : grid1.Coords) : ℕ := 2 * (L 1).val + (L 0).val

theorem tileNo_inj {L L' : grid1.Coords} (h : tileNo L = tileNo L') : L = L' := by
  have h0 : (L 0).val < 2 := (L 0).isLt
  have h0' : (L' 0).val < 2 := (L' 0).isLt
  refine funext fun (a : Fin 2) => Fin.ext ?_
  match a with
  | 0 => show (L 0).val = (L' 0).val; unfold tileNo at h; omega
  | 1 => show (L 1).val = (L' 1).val; unfold tileNo at h; omega

/-- The tile of a number below 32. -/
def tileOf (n : ℕ) (h : n < 32) : grid1.Coords := coordsV ⟨n % 2, Nat.mod_lt _ (by decide)⟩ ⟨n / 2, by change n / 2 < 16; omega⟩

theorem tileNo_tileOf (n : ℕ) (h : n < 32) : tileNo (tileOf n h) = n := by
  show 2 * (n / 2) + n % 2 = n; omega

theorem coordsV_eta (L : grid1.Coords) : coordsV (L 0) (L 1) = L := tileNo_inj rfl

theorem mem_iSl (L : grid1.Coords) (x : S50176.Idx) : x ∈ (iSl L).view.set ↔ 1568 * tileNo L ≤ (x 0).val ∧ (x 0).val < 1568 * tileNo L + 1568 := by
  have e : (iSl L).view.set = (Rect.unit (s := S50176) (k1_off1 L) S1568.size (k1_off1_inb L)).set := View.set_slice_whole _ _
  rw [e, Rect.mem_set_unit, k1_off1_eq]
  refine (Fin.forall_fin_one (p := fun a : Fin 1 => _)).trans ?_
  change (3136 * (L 1).val + 1568 * (L 0).val ≤ (x 0).val ∧ (x 0).val < 3136 * (L 1).val + 1568 * (L 0).val + 1568) ↔ _
  unfold tileNo; constructor <;> intro h <;> omega

theorem mem_vSl (L : grid1.Coords) (x : S401408.Idx) : x ∈ (vSl L).view.set ↔ 12544 * tileNo L ≤ (x 0).val ∧ (x 0).val < 12544 * tileNo L + 12544 := by
  have e : (vSl L).view.set = (Rect.unit (s := S401408) (k1_off2 L) S12544.size (k1_off2_inb L)).set := View.set_slice_whole _ _
  rw [e, Rect.mem_set_unit, k1_off2_eq]
  refine (Fin.forall_fin_one (p := fun a : Fin 1 => _)).trans ?_
  change (25088 * (L 1).val + 12544 * (L 0).val ≤ (x 0).val ∧ (x 0).val < 25088 * (L 1).val + 12544 * (L 0).val + 12544) ↔ _
  unfold tileNo; constructor <;> intro h <;> omega

theorem mem_oSl (L : grid1.Coords) (x : S32x4096.Idx) : x ∈ (oSl L).view.set ↔ (x 0).val = tileNo L := by
  have e : (oSl L).view.set = (Rect.unit (s := S32x4096) (k1_off8 L) S1x4096.size (k1_off8_inb L)).set :=
    (View.set_reshape _ _).trans (View.set_slice_whole _ _)
  rw [e, Rect.mem_set_unit, k1_off8_eq]
  refine (Fin.forall_fin_two (p := fun a : Fin 2 => _)).trans ?_
  change ((2 * (L 1).val + (L 0).val ≤ (x 0).val ∧ (x 0).val < 2 * (L 1).val + (L 0).val + 1) ∧ (0 ≤ (x 1).val ∧ (x 1).val < 0 + 4096)) ↔ _
  have : (x 1).val < 4096 := (x 1).isLt
  unfold tileNo; constructor <;> intro h <;> omega

/-- The parts of a cut of an array, one per tile. -/
structure IsCut {J : Type} [Fintype J] [DecidableEq J] (S : grid1.Coords → Finset J) : Prop where
  disj : ∀ L L', L ≠ L' → Disjoint (S L) (S L')
  cover : ∀ x, ∃ L, x ∈ S L

theorem cut_i : IsCut (J := S50176.Idx) fun L => (iSl L).view.set where
  disj L L' h := Finset.disjoint_left.mpr fun x hx hx' => h (tileNo_inj (by
    have h1 := (mem_iSl L x).mp hx; have h2 := (mem_iSl L' x).mp hx'; omega))
  cover x := by
    have hx : (x 0).val < 50176 := (x 0).isLt
    have hn : (x 0).val / 1568 < 32 := by omega
    refine ⟨tileOf _ hn, ?_⟩
    beta_reduce
    rw [mem_iSl, tileNo_tileOf]; omega

theorem cut_v : IsCut (J := S401408.Idx) fun L => (vSl L).view.set where
  disj L L' h := Finset.disjoint_left.mpr fun x hx hx' => h (tileNo_inj (by
    have h1 := (mem_vSl L x).mp hx; have h2 := (mem_vSl L' x).mp hx'; omega))
  cover x := by
    have hx : (x 0).val < 401408 := (x 0).isLt
    have hn : (x 0).val / 12544 < 32 := by omega
    refine ⟨tileOf _ hn, ?_⟩
    beta_reduce
    rw [mem_vSl, tileNo_tileOf]; omega

theorem cut_o : IsCut (J := S32x4096.Idx) fun L => (oSl L).view.set where
  disj L L' h := Finset.disjoint_left.mpr fun x hx hx' => h (tileNo_inj (by
    have h1 := (mem_oSl L x).mp hx; have h2 := (mem_oSl L' x).mp hx'; omega))
  cover x := ⟨tileOf (x 0).val (x 0).isLt, (mem_oSl _ x).mpr (tileNo_tileOf _ _).symm⟩

/-- The parts, indexed by pairs, are the whole array. -/
theorem cut_union {J : Type} [Fintype J] [DecidableEq J] {S : grid1.Coords → Finset J} (h : IsCut S) :
    (Finset.univ : Finset (Fin 2 × Fin 16)).biUnion (fun t => S (coordsV t.1 t.2)) = Finset.univ :=
  Finset.eq_univ_iff_forall.mpr fun x => by
    obtain ⟨L, hL⟩ := h.cover x
    exact Finset.mem_biUnion.mpr ⟨(L 0, L 1), Finset.mem_univ _, by rw [coordsV_eta]; exact hL⟩

theorem cut_disj {J : Type} [Fintype J] [DecidableEq J] {S : grid1.Coords → Finset J} (h : IsCut S) :
    ∀ t ∈ (Finset.univ : Finset (Fin 2 × Fin 16)), ∀ t' ∈ (Finset.univ : Finset (Fin 2 × Fin 16)), t ≠ t' →
      Disjoint (S (coordsV t.1 t.2)) (S (coordsV t'.1 t'.2)) := fun t _ t' _ hne =>
  h.disj _ _ fun e => hne (Prod.ext (congrFun e 0) (congrFun e 1))

/-- An array is its tiles' parts. -/
theorem cut_eq {ℓ : Loc nD τ sig} {S : grid1.Coords → Finset (Idx ℓ)} (h : IsCut S) (f : Buf (Elt F) ℓ) :
    (ℓ ↦{fullShare} f : sProp 𝕄) = bigSep Finset.univ fun t : Fin 2 × Fin 16 => ℓ ↦[S (coordsV t.1 t.2)]{fullShare} f := by
  rw [← pointsTo_biUnion (q := fullShare) (f := f) Finset.univ (fun t : Fin 2 × Fin 16 => S (coordsV t.1 t.2)) (cut_disj h), cut_union h]

/-- The tiles' parts, each at its own contents, are the array at contents that agree with each on its part. -/
theorem cut_join {ℓ : Loc nD τ sig} {S : grid1.Coords → Finset (Idx ℓ)} (h : IsCut S) (fs : Fin 2 × Fin 16 → Buf (Elt F) ℓ) :
    (bigSep Finset.univ fun t : Fin 2 × Fin 16 => ℓ ↦[S (coordsV t.1 t.2)]{fullShare} fs t)
      ⊢ (iprop(∃ g, ⌜∀ t, ∀ i ∈ S (coordsV t.1 t.2), g i = fs t i⌝ ∗ ℓ ↦{fullShare} g) : sProp 𝕄) := by
  have hj := pointsTo_biUnion_join (Ix := HIx 1) (Name := ℕ) (U := UU) (Lvl := ℕ) (q := fullShare) Finset.univ (fun t : Fin 2 × Fin 16 => S (coordsV t.1 t.2)) fs (fs (0, 0)) (cut_disj h)
  rw [cut_union h] at hj
  iintro H
  ihave H := hj $$ H
  icases H with ⟨%g, %hg, H⟩
  iexists g; isplitr
  · ipureintro; exact fun t i hi => hg t (Finset.mem_univ t) i hi
  iexact H

variable (sp : Spec F) [FloatOps F] [∀ e, Nonempty (Elt F e)]

/-- The call is handed the three arrays whole, the values some that the specification allows. -/
theorem st_intro (d : Dev nD) (v : Buf (Elt F) (vLoc d)) (hv : sp.good d v) (o : Buf (Elt F) (oLoc d)) :
    iprop((iLoc d ↦{fullShare} sp.ix d) ∗ (vLoc d ↦{fullShare} v) ∗ oLoc d ↦{fullShare} o)
      ⊢ (bigSep Finset.univ fun c : Fin ((K (F := F)).nCore 0) => (P sp).st 0 d c : sProp 𝕄) := by
  show _ ⊢ (bigSep Finset.univ fun c : Fin 2 => bigSep Finset.univ fun i : Fin 16 => goAt sp d (coordsV c i) : sProp 𝕄)
  rw [← bigSep_univ_prod (fun t : Fin 2 × Fin 16 => goAt sp d (coordsV t.1 t.2)), cut_eq (ℓ := iLoc d) cut_i (sp.ix d), cut_eq (ℓ := vLoc d) cut_v v, cut_eq (ℓ := oLoc d) cut_o o,
    ← bigSep_sep', ← bigSep_sep']
  refine bigSep_mono fun t _ => (show iprop((iLoc d ↦[(iSl (coordsV t.1 t.2)).view.set]{fullShare} sp.ix d) ∗ (vLoc d ↦[(vSl (coordsV t.1 t.2)).view.set]{fullShare} v)
    ∗ oLoc d ↦[(oSl (coordsV t.1 t.2)).view.set]{fullShare} o) ⊢ (goAt sp d (coordsV t.1 t.2) : sProp 𝕄) from ?_)
  unfold goAt
  iintro ⟨Hi, Hv, Ho⟩
  isplitl [Hi]; · iexact Hi
  isplitl [Hv]
  · iexists v; isplitr
    · ipureintro; exact hv
    iexact Hv
  iexists o; iexact Ho

/-- The rows of partial sums: each tile's is that of its indices and of values that the specification allows. -/
def Rows (d : Dev nD) (f : Buf (Elt F) (oLoc d)) : Prop :=
  ∀ L : grid1.Coords, ∃ v, sp.good d v ∧ (oSl L).view.read (Elt F) f = segRow ((iSl L).view.read (Elt F) (sp.ix d)) ((vSl L).view.read (Elt F) v)

/-- What a tile hands back, its values and its row under one quantifier. -/
theorem tdAt_pack (d : Dev nD) (L : grid1.Coords) :
    (tdAt sp d L : sProp 𝕄) ⊢ iprop((iLoc d ↦[(iSl L).view.set]{fullShare} sp.ix d)
      ∗ ∃ y : Buf (Elt F) (vLoc d) × Buf (Elt F) (oLoc d), ⌜sp.good d y.1 ∧ (oSl L).view.read (Elt F) y.2 = segRow ((iSl L).view.read (Elt F) (sp.ix d)) ((vSl L).view.read (Elt F) y.1)⌝
        ∗ ((vLoc d ↦[(vSl L).view.set]{fullShare} y.1) ∗ oLoc d ↦[(oSl L).view.set]{fullShare} y.2)) := by
  unfold tdAt
  iintro ⟨Hi, %v, %hv, Hv, %f, %hf, Ho⟩
  isplitl [Hi]; · iexact Hi
  iexists (v, f); isplitr
  · ipureintro; exact ⟨hv, hf⟩
  isplitl [Hv]; · iexact Hv
  iexact Ho

/-- The call hands the three arrays back whole. -/
theorem dn_elim (d : Dev nD) :
    (bigSep Finset.univ fun c : Fin ((K (F := F)).nCore 0) => (P sp).dn 0 d c : sProp 𝕄)
      ⊢ iprop((iLoc d ↦{fullShare} sp.ix d) ∗ (∃ v, vLoc d ↦{fullShare} v) ∗ ∃ f, ⌜Rows sp d f⌝ ∗ oLoc d ↦{fullShare} f) := by
  show (bigSep Finset.univ fun c : Fin 2 => bigSep Finset.univ fun i : Fin 16 => tdAt sp d (coordsV c i) : sProp 𝕄) ⊢ _
  rw [← bigSep_univ_prod (fun t : Fin 2 × Fin 16 => tdAt sp d (coordsV t.1 t.2)), cut_eq (ℓ := iLoc d) cut_i (sp.ix d)]
  refine BIBase.Entails.trans (bigSep_mono fun t _ => tdAt_pack sp d (coordsV t.1 t.2)) ?_
  rw [bigSep_sep']
  iintro ⟨Hi, H⟩
  isplitl [Hi]; · iexact Hi
  ihave H := bigSep_exists_pi $$ H
  icases H with ⟨%y, H⟩
  ihave H := (bigSep_pure_sep Finset.univ _ _) $$ H
  icases H with ⟨%hy, H⟩
  ihave H := (Entails.of_eq (bigSep_sep' _ _ _)) $$ H
  icases H with ⟨Hv, Ho⟩
  ihave Hv := (cut_join (ℓ := vLoc d) cut_v (fun t => (y t).1)) $$ Hv
  icases Hv with ⟨%v, -, Hv⟩
  ihave Ho := (cut_join (ℓ := oLoc d) cut_o (fun t => (y t).2)) $$ Ho
  icases Ho with ⟨%f, %hf, Ho⟩
  isplitl [Hv]
  · iexists v; iexact Hv
  iexists f; isplitr
  · ipureintro
    intro L
    obtain ⟨h1, h2⟩ := hy (L 0, L 1) (Finset.mem_univ _)
    refine ⟨(y (L 0, L 1)).1, h1, ?_⟩
    rw [coordsV_eta] at h2
    refine (View.read_congr fun i hi => ?_).trans h2
    exact hf (L 0, L 1) i (by rw [coordsV_eta]; exact hi)
  iexact Ho

end Cert.Proof.Seg
end
-- ==== Proof.HostOps.lean ====
/-
  The host operations of @main as lists, around its three calls, and what the buffers the calls read hold after them.
-/
module

public import proofs.«01_k».proof.KernelIdeal
public import proofs.«01_k».proof.Proof.Gen.KernelIdeal
public import Idealize.ShloMosaic.Lib.StableHlo.Run

@[expose] public section

noncomputable section

namespace Cert.Proof.Seg

open Cert.KernelIdeal Cert.KernelIdeal.Gen
open Idealize.ShloMosaic Idealize.ShloMosaic.TcCoe Idealize.SL.Sem
open Idealize.ShloMosaic.StableHlo (after seqK)

variable {F : FTy → Type} [FloatOps F]

/-- The host operations before the first call: the weights side by side, the output weights in blocks, the biases. -/
abbrev opsPre : List (HloOp τ sig (Elt F)) :=
  [ StableHlo.nary ![main_arg2, main_arg6, main_arg10] main_v0 (fun u => (concatenate S1152x3456 1 [⟨S1152x1152, (u 0 : (⟨S1152x1152, .f32⟩ : BufTy).Contents (Elt F))⟩, ⟨S1152x1152, (u 1 : (⟨S1152x1152, .f32⟩ : BufTy).Contents (Elt F))⟩, ⟨S1152x1152, (u 2 : (⟨S1152x1152, .f32⟩ : BufTy).Contents (Elt F))⟩] concatenates_S1152x1152_S1152x1152_S1152x1152_S1152x3456_d1 : (⟨S1152x3456, .f32⟩ : BufTy).Contents (Elt F))),
    StableHlo.unary main_v0 main_v1 ((truncf .bf16 · bitsLt_bf16_f32) : (⟨S1152x3456, .f32⟩ : BufTy).Contents (Elt F) → (⟨S1152x3456, .bf16⟩ : BufTy).Contents (Elt F)),
    StableHlo.nary ![main_arg3, main_arg7, main_arg11] main_v2 (fun u => (concatenate S3456 0 [⟨S1152, (u 0 : (⟨S1152, .f32⟩ : BufTy).Contents (Elt F))⟩, ⟨S1152, (u 1 : (⟨S1152, .f32⟩ : BufTy).Contents (Elt F))⟩, ⟨S1152, (u 2 : (⟨S1152, .f32⟩ : BufTy).Contents (Elt F))⟩] concatenates_S1152_S1152_S1152_S3456_d0 : (⟨S3456, .f32⟩ : BufTy).Contents (Elt F))),
    StableHlo.reshape main_v2 main_v3 (rfl : (.f32 : EltTy) = .f32) shapeCasts_S3456_S1x3456,
    StableHlo.nullary main_cst (constant S_ .f32 0x00000000#32),
    StableHlo.unary main_cst main_v4 (broadcastInDim S3456x16 ![] bcast_S_S3456x16 : (⟨S_, .f32⟩ : BufTy).Contents (Elt F) → (⟨S3456x16, .f32⟩ : BufTy).Contents (Elt F)),
    StableHlo.nullary main_c (constantI S_ 32 0#32),
    StableHlo.unary main_c main_v5 (broadcastInDim S1 ![] bcast_S_S1 : (⟨S_, .i32⟩ : BufTy).Contents (Elt F) → (⟨S1, .i32⟩ : BufTy).Contents (Elt F)),
    StableHlo.nullary main_c_0 (constantI S_ 32 0#32),
    StableHlo.unary main_c_0 main_v6 (broadcastInDim S1 ![] bcast_S_S1 : (⟨S_, .i32⟩ : BufTy).Contents (Elt F) → (⟨S1, .i32⟩ : BufTy).Contents (Elt F)),
    StableHlo.binary main_v5 main_v6 main_v7 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v4 main_v7 main_arg4 main_v8 ((fun x i u => Host.scatter scatter_S3456x16_S2_S1152x1_01_n_01_0 (fun _ b => b) x i u) : (⟨S3456x16, .f32⟩ : BufTy).Contents (Elt F) → (⟨S2, .i32⟩ : BufTy).Contents (Elt F) → (⟨S1152x1, .f32⟩ : BufTy).Contents (Elt F) → (⟨S3456x16, .f32⟩ : BufTy).Contents (Elt F)),
    StableHlo.nullary main_c_1 (constantI S_ 32 1152#32),
    StableHlo.unary main_c_1 main_v9 (broadcastInDim S1 ![] bcast_S_S1 : (⟨S_, .i32⟩ : BufTy).Contents (Elt F) → (⟨S1, .i32⟩ : BufTy).Contents (Elt F)),
    StableHlo.nullary main_c_2 (constantI S_ 32 8#32),
    StableHlo.unary main_c_2 main_v10 (broadcastInDim S1 ![] bcast_S_S1 : (⟨S_, .i32⟩ : BufTy).Contents (Elt F) → (⟨S1, .i32⟩ : BufTy).Contents (Elt F)),
    StableHlo.binary main_v9 main_v10 main_v11 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v8 main_v11 main_arg8 main_v12 ((fun x i u => Host.scatter scatter_S3456x16_S2_S1152x3_01_n_01_0 (fun _ b => b) x i u) : (⟨S3456x16, .f32⟩ : BufTy).Contents (Elt F) → (⟨S2, .i32⟩ : BufTy).Contents (Elt F) → (⟨S1152x3, .f32⟩ : BufTy).Contents (Elt F) → (⟨S3456x16, .f32⟩ : BufTy).Contents (Elt F)),
    StableHlo.nullary main_c_3 (constantI S_ 32 2304#32),
    StableHlo.unary main_c_3 main_v13 (broadcastInDim S1 ![] bcast_S_S1 : (⟨S_, .i32⟩ : BufTy).Contents (Elt F) → (⟨S1, .i32⟩ : BufTy).Contents (Elt F)),
    StableHlo.nullary main_c_4 (constantI S_ 32 1#32),
    StableHlo.unary main_c_4 main_v14 (broadcastInDim S1 ![] bcast_S_S1 : (⟨S_, .i32⟩ : BufTy).Contents (Elt F) → (⟨S1, .i32⟩ : BufTy).Contents (Elt F)),
    StableHlo.binary main_v13 main_v14 main_v15 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v12 main_v15 main_arg12 main_v16 ((fun x i u => Host.scatter scatter_S3456x16_S2_S1152x6_01_n_01_0 (fun _ b => b) x i u) : (⟨S3456x16, .f32⟩ : BufTy).Contents (Elt F) → (⟨S2, .i32⟩ : BufTy).Contents (Elt F) → (⟨S1152x6, .f32⟩ : BufTy).Contents (Elt F) → (⟨S3456x16, .f32⟩ : BufTy).Contents (Elt F)),
    StableHlo.unary main_v16 main_v17 ((truncf .bf16 · bitsLt_bf16_f32) : (⟨S3456x16, .f32⟩ : BufTy).Contents (Elt F) → (⟨S3456x16, .bf16⟩ : BufTy).Contents (Elt F)),
    StableHlo.nullary main_cst_5 (constant S_ .f32 0x00000000#32),
    StableHlo.unary main_cst_5 main_v18 (broadcastInDim S1 ![] bcast_S_S1 : (⟨S_, .f32⟩ : BufTy).Contents (Elt F) → (⟨S1, .f32⟩ : BufTy).Contents (Elt F)),
    StableHlo.nullary main_cst_6 (constant S_ .f32 0x00000000#32),
    StableHlo.unary main_cst_6 main_v19 (broadcastInDim S5 ![] bcast_S_S5 : (⟨S_, .f32⟩ : BufTy).Contents (Elt F) → (⟨S5, .f32⟩ : BufTy).Contents (Elt F)),
    StableHlo.nary ![main_arg5, main_arg13, main_v18, main_arg9, main_v19] main_v20 (fun u => (concatenate S16 0 [⟨S1, (u 0 : (⟨S1, .f32⟩ : BufTy).Contents (Elt F))⟩, ⟨S6, (u 1 : (⟨S6, .f32⟩ : BufTy).Contents (Elt F))⟩, ⟨S1, (u 2 : (⟨S1, .f32⟩ : BufTy).Contents (Elt F))⟩, ⟨S3, (u 3 : (⟨S3, .f32⟩ : BufTy).Contents (Elt F))⟩, ⟨S5, (u 4 : (⟨S5, .f32⟩ : BufTy).Contents (Elt F))⟩] concatenates_S1_S6_S1_S3_S5_S16_d0 : (⟨S16, .f32⟩ : BufTy).Contents (Elt F))),
    StableHlo.reshape main_v20 main_v21 (rfl : (.f32 : EltTy) = .f32) shapeCasts_S16_S1x16 ]

/-- The host operations between the first call and the second: the indices padded, the values laid flat. -/
abbrev opsMid : List (HloOp τ sig (Elt F)) :=
  [ StableHlo.nullary main_c_7 (constantI S_ 32 0#32),
    StableHlo.TRef.unary (.of main_c_7 : StableHlo.TRef sig ⟨S_, .i32⟩) (.of main_call0_v0 : StableHlo.TRef sig ⟨S_, .i32⟩) id,
    StableHlo.TRef.binary (.of main_arg1 : StableHlo.TRef sig ⟨S50000, .i32⟩) (.of main_call0_v0 : StableHlo.TRef sig ⟨S_, .i32⟩) (.of main_v23 : StableHlo.TRef sig ⟨S50176, .i32⟩) (fun x v => pad S50176 ![0] ![176] ![0] x v pads_S50000_S50176_01760 h_S_),
    StableHlo.reshape main_v22_0 main_v24 (rfl : (.f32 : EltTy) = .f32) shapeCasts_S50176x8_S401408 ]

/-- The host operations after the third call: the partial sums in rows, the energy and the stress cut out. -/
abbrev opsPost : List (HloOp τ sig (Elt F)) :=
  [ StableHlo.reshape main_v26 main_v27 (rfl : (.f32 : EltTy) = .f32) shapeCasts_S1x4096_S512x8,
    StableHlo.unary main_v27 main_v28 ((extractStridedSlice S512x1 ![0, 0] · slices_S512x8_S512x1_0_0) : (⟨S512x8, .f32⟩ : BufTy).Contents (Elt F) → (⟨S512x1, .f32⟩ : BufTy).Contents (Elt F)),
    StableHlo.reshape main_v28 main_v29 (rfl : (.f32 : EltTy) = .f32) shapeCasts_S512x1_S512,
    StableHlo.unary main_v27 main_v30 ((extractStridedSlice S512x6 ![0, 1] · slices_S512x8_S512x6_0_1) : (⟨S512x8, .f32⟩ : BufTy).Contents (Elt F) → (⟨S512x6, .f32⟩ : BufTy).Contents (Elt F)) ]

/-- @main is the three lists around its three calls. -/
theorem main_eq (d : Dev nD) : main (F := F) d = seqK opsPre (Prog.lift (.customCall (SparseCore.inner (Pipeline.entry 0)) ()) >>= fun _ =>
    seqK opsMid ((sc (F := F)).run d 0 >>= fun _ => Prog.lift (.customCall (SparseCore.inner (Pipeline.entry 1)) ()) >>= fun _ => seqK opsPost (pure ⟨⟩))) := rfl

open StableHlo in
theorem opsPre_sub : (opsPre : List (HloOp τ sig (Elt F))).Forall fun op => op.bufs ⊆ StableHlo.tcRefs τ sig :=
  ⟨nary_bufs_sub .., unary_bufs_sub .., nary_bufs_sub .., reshape_bufs_sub .., nullary_bufs_sub .., unary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., unary_bufs_sub .., nullary_bufs_sub .., unary_bufs_sub .., nullary_bufs_sub .., unary_bufs_sub .., nary_bufs_sub .., reshape_bufs_sub ..⟩
open StableHlo in
theorem opsMid_sub : (opsMid : List (HloOp τ sig (Elt F))).Forall fun op => op.bufs ⊆ StableHlo.tcRefs τ sig :=
  ⟨nullary_bufs_sub .., unary_bufs_sub .., binary_bufs_sub .., reshape_bufs_sub ..⟩
open StableHlo in
theorem opsPost_sub : (opsPost : List (HloOp τ sig (Elt F))).Forall fun op => op.bufs ⊆ StableHlo.tcRefs τ sig :=
  ⟨reshape_bufs_sub .., unary_bufs_sub .., reshape_bufs_sub .., unary_bufs_sub ..⟩

theorem opsPre_fresh : (opsPre : List (HloOp τ sig (Elt F))).Forall fun op => op.fresh = ∅ := StableHlo.forall_fresh_of_map rfl
theorem opsMid_fresh : (opsMid : List (HloOp τ sig (Elt F))).Forall fun op => op.fresh = ∅ := StableHlo.forall_fresh_of_map rfl
theorem opsPost_fresh : (opsPost : List (HloOp τ sig (Elt F))).Forall fun op => op.fresh = ∅ := StableHlo.forall_fresh_of_map rfl

/-- The operations before the first call leave every buffer that they do not name as a result. -/
theorem opsPre_other (V : Valuation τ sig (Elt F)) {r : Ref sig .tc}
    (hr : r ∉ ([main_v0, main_v1, main_v2, main_v3, main_cst, main_v4, main_c, main_v5, main_c_0, main_v6, main_v7, main_v8, main_c_1, main_v9, main_c_2, main_v10, main_v11, main_v12, main_c_3, main_v13, main_c_4, main_v14, main_v15, main_v16, main_v17, main_cst_5, main_v18, main_cst_6, main_v19, main_v20, main_v21] : List (Ref sig .tc))) : after opsPre V (Proc.devRef .tc r) = V (Proc.devRef .tc r) :=
  StableHlo.after_of_writes_sub _ _ (StableHlo.forall_writes_sub_of_map rfl) hr
theorem opsMid_other (V : Valuation τ sig (Elt F)) {r : Ref sig .tc}
    (hr : r ∉ ([main_c_7, main_call0_v0, main_v23, main_v24] : List (Ref sig .tc))) : after opsMid V (Proc.devRef .tc r) = V (Proc.devRef .tc r) :=
  StableHlo.after_of_writes_sub _ _ (StableHlo.forall_writes_sub_of_map rfl) hr
theorem opsPost_other (V : Valuation τ sig (Elt F)) {r : Ref sig .tc}
    (hr : r ∉ ([main_v27, main_v28, main_v29, main_v30] : List (Ref sig .tc))) : after opsPost V (Proc.devRef .tc r) = V (Proc.devRef .tc r) :=
  StableHlo.after_of_writes_sub _ _ (StableHlo.forall_writes_sub_of_map rfl) hr

/-- The padded indices. -/
def padIx (x : (⟨S50000, .i32⟩ : BufTy).Contents (Elt F)) : (⟨S50176, .i32⟩ : BufTy).Contents (Elt F) :=
  pad S50176 ![0] ![176] ![0] x (constantI S_ 32 0#32) pads_S50000_S50176_01760 h_S_

open StableHlo in
theorem mid_v23 (V : Valuation τ sig (Elt F)) : after opsMid V (Proc.devRef .tc main_v23) = padIx (V (Proc.devRef .tc main_arg1)) := by
  after_results; rfl
open StableHlo in
theorem mid_v24 (V : Valuation τ sig (Elt F)) : after opsMid V (Proc.devRef .tc main_v24) = shapeCast S401408 (V (Proc.devRef .tc main_v22_0)) shapeCasts_S50176x8_S401408 := by
  after_results; rfl
open StableHlo in
theorem post_v29 (V : Valuation τ sig (Elt F)) : after opsPost V (Proc.devRef .tc main_v29)
    = shapeCast S512 (extractStridedSlice S512x1 ![0, 0] (shapeCast S512x8 (V (Proc.devRef .tc main_v26)) shapeCasts_S1x4096_S512x8) slices_S512x8_S512x1_0_0) shapeCasts_S512x1_S512 := by
  after_results; rfl
open StableHlo in
theorem post_v30 (V : Valuation τ sig (Elt F)) : after opsPost V (Proc.devRef .tc main_v30)
    = extractStridedSlice S512x6 ![0, 1] (shapeCast S512x8 (V (Proc.devRef .tc main_v26)) shapeCasts_S1x4096_S512x8) slices_S512x8_S512x6_0_1 := by
  after_results; rfl

end Cert.Proof.Seg

end
-- ==== Proof.Run.lean ====
/-
  The run of the whole program: @main's host operations and its three calls in order, from any launch memory whose
  padded indices are in range, to what the calls may leave.
-/
module

public import proofs.«01_k».proof.Proof.Tile
public import proofs.«01_k».proof.Proof.TcRegions
public import proofs.«01_k».proof.Proof.Split
public import proofs.«01_k».proof.Proof.HostOps

@[expose] public section

noncomputable section

namespace Cert.Proof.Seg

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seqK)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## What the run may leave -/

/-- The unscoped buffers before the first call. -/
def V1 (d : Dev nD) : Valuation τ sig (Elt F) := after opsPre fun b => m (d, b)

/-- What the SparseCore call works on: the padded indices; values that the first call may leave, laid flat. -/
def spec : Spec F where
  ix := fun d => padIx (m ((SparseCore.T d).loc main_arg1))
  good := fun d v => ∃ V2, Left (fun _ => V1 m d) 0 0 d V2 ∧ v = shapeCast S401408 (V2 (Proc.devRef .tc main_v22_0)) shapeCasts_S50176x8_S401408

/-- What the run may leave in the unscoped buffers. -/
def Out (d : Dev nD) (V7 : Valuation τ sig (Elt F)) : Prop :=
  ∃ V2 V4 V6 : Valuation τ sig (Elt F), Left (fun _ => V1 m d) 0 0 d V2
    ∧ (∀ b : Ref sig .tc, b ≠ main_v24 → b ≠ main_v25 → V4 (Proc.devRef .tc b) = after opsMid V2 (Proc.devRef .tc b))
    ∧ Rows (spec m) d (V4 (Proc.devRef .tc main_v25))
    ∧ Left (fun _ => V4) 1 1 d V6
    ∧ V7 = after opsPost V6

theorem loc_eq (d : Dev nD) (b : Ref sig .tc) : (SparseCore.T d : Thread nD τ).loc b = (d, Proc.devRef .tc b) := rfl

/-- A region leaves a buffer that is no array of its pipeline; in particular the first call leaves the arguments. -/
theorem left_other {V : Dev nD → Valuation τ sig (Elt F)} {n : ℕ} {p : Fin 2} {d : Dev nD} {V' : Valuation τ sig (Elt F)}
    (h : Left V n p d V') {b : Ref sig .tc} (hb : ∀ w, b ≠ Pipeline.arrRef (cfgs p).spec w) : V' (Proc.devRef .tc b) = V d (Proc.devRef .tc b) := h.2 b hb

/-! ## The launch element -/

theorem phinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- A pipeline's share of the launch element on a core. -/
abbrev pipeG (p : Fin 2) (d : Dev nD) : sProp 𝕄 :=
  iprop(Pipeline.cellsGhost (Pipeline.pin (pcfgs (F := F)) adm) EP p d ∗ Pipeline.toksInit (Pipeline.pin (pcfgs (F := F)) adm) EP p d)

abbrev G (d : Dev nD) : sProp 𝕄 := iprop(pipeG 0 d ∗ pipeG 1 d)

omit [∀ e, Nonempty (Elt F e)] in
theorem ownU_parts (a : UH) (b : UP) : (ownU ((a, (b, 1)) : UU) : sProp 𝕄) ⊢ iprop(BI.own (EH a) ∗ BI.own (EP b)) := by
  iintro H
  ihave H := (ownU_pair a (b, (1 : Counters))) $$ H
  icases H with ⟨HA, HB⟩
  isplitl [HA]; · iexact HA
  ihave HB := (own_pair_emb (embR (A := UH) (B := UP × Counters) (nD := nD) (τ := τ) (sig := sig) (Ix := HIx 1) (Val := Elt F) (Name := ℕ) (Lvl := ℕ)) b (1 : Counters)) $$ HB
  icases HB with ⟨HB, -⟩
  iexact HB

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (spec m)).x q thr) := by
  unfold u₀
  iintro Hu
  ihave H := (ownU_parts _ _) $$ Hu
  icases H with ⟨HH, HK⟩
  imod (Pipeline.fund_ghost (Pipeline.pin (pcfgs (F := F)) adm) (EP (F := F)) phinj) $$ HK with ⟨Hc, Ht⟩
  imodintro
  isplitl [HH]; · iexact HH
  isplitl [Hc Ht]
  · iapply (show iprop((bigSep Finset.univ fun c : Dev nD => bigSep Finset.univ fun p : Fin 2 => Pipeline.cellsGhost (Pipeline.pin (pcfgs (F := F)) adm) EP p c)
          ∗ (bigSep Finset.univ fun c : Dev nD => bigSep Finset.univ fun p : Fin 2 => Pipeline.toksInit (Pipeline.pin (pcfgs (F := F)) adm) EP p c))
        ⊢ (bigSep Finset.univ fun d : Dev nD => G (F := F) d : sProp 𝕄) from by
      rw [← bigSep_sep']
      refine bigSep_mono fun d _ => (show iprop((bigSep Finset.univ fun p : Fin 2 => Pipeline.cellsGhost (Pipeline.pin (pcfgs (F := F)) adm) EP p d)
          ∗ (bigSep Finset.univ fun p : Fin 2 => Pipeline.toksInit (Pipeline.pin (pcfgs (F := F)) adm) EP p d)) ⊢ (G (F := F) d : sProp 𝕄) from ?_)
      rw [show (Finset.univ : Finset (Fin 2)) = {0, 1} from rfl, SparseCore.bigSep_insert' (by decide), SparseCore.bigSep_insert' (by decide),
        bigSep_singleton, bigSep_singleton]
      iintro ⟨⟨H0, H1⟩, T0, T1⟩
      isplitl [H0 T0]
      · isplitl [H0]; · iexact H0
        iexact T0
      isplitl [H1]; · iexact H1
      iexact T1)
    isplitl [Hc]; · iexact Hc
    iexact Ht
  iapply (show (BI.emp : sProp 𝕄) ⊢ _ from by
    rw [show (fun thr : Thread nD τ => bigSep Finset.univ fun q : Fin 1 => (P (spec m)).x q thr) = fun _ => (BI.emp : sProp 𝕄) from
      funext fun _ => bigSep_emp_const _, bigSep_emp_const])
  iempintro

/-! ## @main on the TensorCore -/

/-- What the core owes can be taken out of its handshake state and put back. -/
theorem tcSt_split (d : Dev nD) (n : ℕ) : ((K (F := F)).tcSt EH d n : sProp 𝕄) ⊢ iprop(owesR n d ∗ (owesR n d -∗ (K (F := F)).tcSt EH d n)) := by
  unfold SparseCore.Cfg.tcSt
  iintro ⟨HO, Hr⟩
  isplitl [HO]; · iexact HO
  iintro HO
  isplitl [HO]; · iexact HO
  iexact Hr

/-- A TensorCore call of @main. -/
theorem wp_region (κ : GSem nD τ sig → ℕ) (sp : Spec F) (V : Dev nD → Valuation τ sig (Elt F)) (n : ℕ) (p : Fin 2) (d : Dev nD) (Φ : PUnit → sProp 𝕄) :
    iprop((K (F := F)).ctx EH (P sp) κ ∗ boundary (SparseCore.T d) ∗ held (SparseCore.T d) (Pipeline.ucRefs τ sig) (V d) ∗ owesR n d ∗ pipeG p d
        ∗ ((boundary (SparseCore.T d) ∗ (∃ V', ⌜Left V n p d V'⌝ ∗ held (SparseCore.T d) (Pipeline.ucRefs τ sig) V') ∗ owesR n d) -∗ Φ ⟨⟩))
      ⊢ wp frame (wpE ((K (F := F)).defs (D (F := F))) 𝒱 (SparseCore.T d) none) Set.univ (Prog.lift (.customCall (SparseCore.inner (Pipeline.entry p)) ())) Φ := by
  refine BIBase.Entails.trans ?_ ((K (F := F)).wp_liftProg (D (F := F)) 𝒱 (SparseCore.T d) Set.univ none (.op (.customCall (Pipeline.entry p) ()) .ret) Φ)
  refine BIBase.Entails.trans ?_ (Pipeline.RDat.RegionSeg.wp (pcfgs (F := F)) adm (rdats V n) (none : HIx 1) phinj EP defs₀ 𝒱₀ (K (F := F)).L (K (F := F)).lev
    (region V n p) d none (fun _ h => nomatch h) .ret Φ)
  rw [show (region V n p).pre d = iprop(held (SparseCore.T d) (Pipeline.ucRefs τ sig) (V d) ∗ owesR n d) from rfl,
    show (region V n p).post d = iprop((∃ V', ⌜Left V n p d V'⌝ ∗ held (SparseCore.T d) (Pipeline.ucRefs τ sig) V') ∗ owesR n d) from rfl]
  iintro ⟨Hctx, Hb, Hh, HO, ⟨Hc, Ht⟩, Hk⟩
  ihave Hlev := (SparseCore.Cfg.ctx_levAts κ) $$ Hctx
  isplitl [Hk]
  · iintro ⟨Hb, HV, HO⟩
    rw [wp_ret]
    imodintro
    iapply Hk
    isplitl [Hb]; · iexact Hb
    isplitl [HV]; · iexact HV
    iexact HO
  isplitl [Hb]; · iexact Hb
  isplitl [Hh HO]
  · isplitl [Hh]; · iexact Hh
    iexact HO
  isplitl [Hlev]; · iexact Hlev
  isplitl [Hc]; · iexact Hc
  iexact Ht

/-- The SparseCore call's three arrays, out of the unscoped buffers. -/
theorem held_three (d : Dev nD) (V : Valuation τ sig (Elt F)) :
    (held (SparseCore.T d) (Pipeline.ucRefs τ sig) V : sProp 𝕄)
      = iprop(((iLoc d ↦{fullShare} V (Proc.devRef .tc main_v23)) ∗ (vLoc d ↦{fullShare} V (Proc.devRef .tc main_v24)) ∗ oLoc d ↦{fullShare} V (Proc.devRef .tc main_v25))
          ∗ held (SparseCore.T d) (Pipeline.ucRefs τ sig \ {Proc.devRef .tc main_v23, Proc.devRef .tc main_v24, Proc.devRef .tc main_v25}) V) := by
  rw [StableHlo.held_sub_split (SparseCore.T d) (T := {Proc.devRef .tc main_v23, Proc.devRef .tc main_v24, Proc.devRef .tc main_v25}) (S := Pipeline.ucRefs τ sig) (by
    intro b hb
    simp only [Finset.mem_insert, Finset.mem_singleton] at hb
    rcases hb with rfl | rfl | rfl <;> exact Pipeline.devRef_mem_ucRefs rfl) V]
  congr 1
  unfold held
  rw [SparseCore.bigSep_insert' (by
      simp only [Finset.mem_insert, Finset.mem_singleton]
      exact not_or.mpr ⟨StableHlo.devRef_ne_of_ne (by decide), StableHlo.devRef_ne_of_ne (by decide)⟩),
    SparseCore.bigSep_insert' (by rw [Finset.mem_singleton]; exact StableHlo.devRef_ne_of_ne (by decide)), bigSep_singleton]

/-- What @main ends with: the unscoped buffers at something the run may leave. -/
abbrev FIN (d : Dev nD) : sProp 𝕄 := iprop(∃ V7, ⌜Out m d V7⌝ ∗ held (SparseCore.T d) (Pipeline.ucRefs τ sig) V7)

/-- The valuation with the SparseCore call's three arrays at given contents. -/
def put (V : Valuation τ sig (Elt F)) (v : main_v24.ty.Contents (Elt F)) (o : main_v25.ty.Contents (Elt F)) : Valuation τ sig (Elt F) :=
  Function.update (Function.update V (Proc.devRef .tc main_v24) v) (Proc.devRef .tc main_v25) o

omit [FloatOps F] [∀ e, Nonempty (Elt F e)] in
theorem put_v25 (V : Valuation τ sig (Elt F)) (v o) : put V v o (Proc.devRef .tc main_v25) = o := Function.update_self ..
omit [FloatOps F] [∀ e, Nonempty (Elt F e)] in
theorem put_v24 (V : Valuation τ sig (Elt F)) (v o) : put V v o (Proc.devRef .tc main_v24) = v :=
  (Function.update_of_ne (StableHlo.devRef_ne_of_ne (by decide)) ..).trans (Function.update_self ..)
omit [FloatOps F] [∀ e, Nonempty (Elt F e)] in
theorem put_other (V : Valuation τ sig (Elt F)) (v o) {b : DevRef τ sig} (h : b ≠ Proc.devRef .tc main_v24) (h' : b ≠ Proc.devRef .tc main_v25) : put V v o b = V b :=
  (Function.update_of_ne h' ..).trans (Function.update_of_ne h ..)

/-- The first call leaves the arguments as the launch has them. -/
theorem left0_arg1 (d : Dev nD) {V2 : Valuation τ sig (Elt F)} (h : Left (fun _ => V1 m d) 0 0 d V2) :
    V2 (Proc.devRef .tc main_arg1) = m ((SparseCore.T d).loc main_arg1) :=
  (h.2 main_arg1 (by decide)).trans (opsPre_other _ (by decide))

/-- The padded indices that the SparseCore call reads. -/
theorem mid_ix (d : Dev nD) {V2 : Valuation τ sig (Elt F)} (h : Left (fun _ => V1 m d) 0 0 d V2) :
    after opsMid V2 (Proc.devRef .tc main_v23) = (spec m).ix d :=
  (mid_v23 V2).trans (congrArg padIx (left0_arg1 m d h))

/-- What the SparseCore call is given, out of the unscoped buffers. -/
theorem held_mid (d : Dev nD) {V2 : Valuation τ sig (Elt F)} (h : Left (fun _ => V1 m d) 0 0 d V2) :
    (held (SparseCore.T d) (Pipeline.ucRefs τ sig) (after opsMid V2) : sProp 𝕄)
      = iprop(((iLoc d ↦{fullShare} (spec m).ix d) ∗ (vLoc d ↦{fullShare} shapeCast S401408 (V2 (Proc.devRef .tc main_v22_0)) shapeCasts_S50176x8_S401408)
        ∗ oLoc d ↦{fullShare} after opsMid V2 (Proc.devRef .tc main_v25))
      ∗ held (SparseCore.T d) (Pipeline.ucRefs τ sig \ {Proc.devRef .tc main_v23, Proc.devRef .tc main_v24, Proc.devRef .tc main_v25}) (after opsMid V2)) := by
  rw [held_three, mid_ix m d h, mid_v24]

/-- The call's three arrays back among the unscoped buffers. -/
theorem held_put (d : Dev nD) (V : Valuation τ sig (Elt F)) (x : Buf (Elt F) (iLoc d)) (v : Buf (Elt F) (vLoc d)) (o : Buf (Elt F) (oLoc d))
    (hx : V (Proc.devRef .tc main_v23) = x) :
    (iprop(((iLoc d ↦{fullShare} x) ∗ (vLoc d ↦{fullShare} v) ∗ oLoc d ↦{fullShare} o)
      ∗ held (SparseCore.T d) (Pipeline.ucRefs τ sig \ {Proc.devRef .tc main_v23, Proc.devRef .tc main_v24, Proc.devRef .tc main_v25}) V) : sProp 𝕄)
      = held (SparseCore.T d) (Pipeline.ucRefs τ sig) (put V v o) := by
  subst hx
  rw [held_three d (put V v o), put_v24, put_v25, put_other V v o (StableHlo.devRef_ne_of_ne (show main_v23 ≠ main_v24 by decide)) (StableHlo.devRef_ne_of_ne (show main_v23 ≠ main_v25 by decide))]
  rw [StableHlo.held_congr (SparseCore.T d) (V := put V v o) (V' := V) fun b hb => put_other _ _ _ ?_ ?_]
  · rintro rfl; exact (Finset.mem_sdiff.mp hb).2 (by simp)
  · rintro rfl; exact (Finset.mem_sdiff.mp hb).2 (by simp)

set_option maxHeartbeats 1000000 in
/-- @main on a device's TensorCore, from the launch contents to something the run may leave. -/
theorem hmain (κ : GSem nD τ sig → ℕ) (d : Dev nD) :
    iprop((K (F := F)).ctx EH (P (spec m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, ← StableHlo.seq_bind_seqK,
    show (unscopedBufs d (fun b => m ((SparseCore.T d).loc b)) : sProp 𝕄) = held (SparseCore.T d) (Pipeline.ucRefs τ sig) (fun b => m (d, b))
      from Pipeline.unscopedBufs_held (Ix := HIx 1) (Name := ℕ) (U := UU) (Lvl := ℕ) d (fun b => m (d, b))]
  iintro ⟨#Hctx, Hst, ⟨Hb, Hh, Hts, -⟩, HG0, HG1⟩
  iapply (StableHlo.wp_seq 𝒱 none Set.univ d (Pipeline.ucRefs τ sig) _ opsPre
    (fun op h => Pipeline.sub_ucRefs op ((List.forall_iff_forall_mem.mp opsPre_sub) op h))
    (fun op h => (List.forall_iff_forall_mem.mp opsPre_fresh) op h) _) $$ [Hb Hh]
  · isplitl [Hb]; · iexact Hb
    iexact Hh
  iintro ⟨Hb, Hh⟩
  rw [wp_bind]
  ihave Hst := (tcSt_split d 0) $$ Hst
  icases Hst with ⟨HO, Hst⟩
  iapply (wp_region κ (spec m) (fun _ => V1 m d) 0 0 d _)
  isplitr; · iexact Hctx
  isplitl [Hb]; · iexact Hb
  isplitl [Hh]; · iexact Hh
  isplitl [HO]; · iexact HO
  isplitl [HG0]; · iexact HG0
  iintro ⟨Hb, ⟨%V2, %h2, Hh⟩, HO⟩
  ihave Hst := Hst $$ HO
  rw [← StableHlo.seq_bind_seqK]
  iapply (StableHlo.wp_seq 𝒱 none Set.univ d (Pipeline.ucRefs τ sig) _ opsMid
    (fun op h => Pipeline.sub_ucRefs op ((List.forall_iff_forall_mem.mp opsMid_sub) op h))
    (fun op h => (List.forall_iff_forall_mem.mp opsMid_fresh) op h) _) $$ [Hb Hh]
  · isplitl [Hb]; · iexact Hb
    iexact Hh
  iintro ⟨Hb, Hh⟩
  rw [wp_bind]
  ihave Hh := (Entails.of_eq (held_mid m d h2)) $$ Hh
  icases Hh with ⟨⟨Hi, Hv, Ho⟩, Hrest⟩
  iapply ((K (F := F)).wp_run (D (F := F)) 𝒱 (EH := EH) (P := P (spec m)) κ d 0)
  isplitr; · iexact Hctx
  isplitl [Hst]; · iexact Hst
  isplitl [Hi Hv Ho]
  · iapply (st_intro (spec m) d (shapeCast S401408 (V2 (Proc.devRef .tc main_v22_0)) shapeCasts_S50176x8_S401408) ⟨V2, h2, rfl⟩ _)
    isplitl [Hi]; · iexact Hi
    isplitl [Hv]; · iexact Hv
    iexact Ho
  iintro ⟨Hst, Hdn⟩
  ihave Hdn := (dn_elim (spec m) d) $$ Hdn
  icases Hdn with ⟨Hi, ⟨%v, Hv⟩, %o, %ho, Ho⟩
  ihave Hh := (Entails.of_eq (held_put d (after opsMid V2) _ v o (mid_ix m d h2))) $$ [Hi Hv Ho Hrest]
  · isplitl [Hi Hv Ho]
    · isplitl [Hi]; · iexact Hi
      isplitl [Hv]; · iexact Hv
      iexact Ho
    iexact Hrest
  rw [wp_bind]
  ihave Hst := (show (K (F := F)).tcSt EH d ((0 : Fin 1).val + 1) ⊢ _ from tcSt_split d 1) $$ Hst
  icases Hst with ⟨HO, Hst⟩
  iapply (wp_region κ (spec m) (fun _ => put (after opsMid V2) v o) 1 1 d _)
  isplitr; · iexact Hctx
  isplitl [Hb]; · iexact Hb
  isplitl [Hh]; · iexact Hh
  isplitl [HO]; · iexact HO
  isplitl [HG1]; · iexact HG1
  iintro ⟨Hb, ⟨%V6, %h6, Hh⟩, HO⟩
  ihave Hst := Hst $$ HO
  rw [← StableHlo.seq_bind_seqK]
  iapply (StableHlo.wp_seq 𝒱 none Set.univ d (Pipeline.ucRefs τ sig) _ opsPost
    (fun op h => Pipeline.sub_ucRefs op ((List.forall_iff_forall_mem.mp opsPost_sub) op h))
    (fun op h => (List.forall_iff_forall_mem.mp opsPost_fresh) op h) _) $$ [Hb Hh]
  · isplitl [Hb]; · iexact Hb
    iexact Hh
  iintro ⟨Hb, Hh⟩
  rw [wp_pure]
  imodintro
  isplitl [Hst]; · iexact Hst
  isplitl [Hh]
  · iexists (after opsPost V6)
    isplitr
    · ipureintro
      exact ⟨V2, put (after opsMid V2) v o, V6, h2, fun b h24 h25 => put_other _ _ _ (StableHlo.devRef_ne_of_ne h24) (StableHlo.devRef_ne_of_ne h25),
        by rw [put_v25]; exact ho, h6, rfl⟩
    iexact Hh
  isplitl [Hb] <;> iassumption

/-! ## The whole run -/

/-- The run ends at something that it may leave, on every device. -/
def fq (d : Dev nD) (s' : Phys nD τ sig (Elt F)) : Prop :=
  ∃ V7, Out m d V7 ∧ ∀ b : Ref sig .tc, b.isScoped = false → s'.mem.mem ((SparseCore.T d).loc b) = V7 (Proc.devRef .tc b)

theorem hfin (d : Dev nD) (s' : Phys nD τ sig (Elt F)) : iprop(FIN m d ∗ SI s') ⊢ (⌜fq m d s'⌝ : sProp 𝕄) := by
  iintro ⟨⟨%V7, %h, H⟩, HSI⟩
  ihave H := (show (held (SparseCore.T d) (Pipeline.ucRefs τ sig) V7 : sProp 𝕄) ⊢ bigSep (Pipeline.ucRefs τ sig) (fun b => (d, b) ↦{fullShare} V7 b) from BIBase.Entails.rfl) $$ H
  ihave %hag := (SI_pointsTo_bufs_agree (c := d) (qs := fun _ => fullShare) (F := V7) (Pipeline.ucRefs τ sig)) $$ [HSI H]
  · isplitl [HSI]; · iexact HSI
    iexact H
  ipureintro
  exact ⟨V7, h, fun b hb => hag _ (Pipeline.devRef_mem_ucRefs hb)⟩

def QC : PUnit × MemSt nD τ sig (Elt F) → Prop := fun r =>
  (∀ d : Dev nD, ∃ V7, Out m d V7 ∧ ∀ b : Ref sig .tc, b.isScoped = false → r.2.mem ((SparseCore.T d).loc b) = V7 (Proc.devRef .tc b)) ∧ r.2.sem = fun _ => 0

/-- Every weakly fair execution from a memory whose padded indices are below 512 ends, every counter zero, at something that it may leave. -/
theorem run_main (hix : ∀ d j, ((spec m).ix d j : BitVec 32).toNat < 512) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (spec m)) (A := ∅) facts v₀
    (fun q hq => match q with | 0 => nomatch hq)
    (fun q _ => match q with | 0 => tileObl (spec m) facts hix)
    (fun q _ => match q with | 0 => SparseCore.Cfg.VecSplit.of_plain (vecSplit (spec m)))
    m ρ main G (FIN m) (u₀ (F := F)) (sep_elim_left.trans (hu₀ m)) (hmain m ρ) (fq m) (hfin m) (QC m) (fun _ h hz => ⟨h, hz⟩)

/-- What the run may leave has every argument as the launch has it. -/
theorem out_arg {d : Dev nD} {V7 : Valuation τ sig (Elt F)} (h : Out m d V7) (b : Ref sig .tc)
    (hb : b ∈ ([main_arg0, main_arg1, main_arg2, main_arg3, main_arg4, main_arg5, main_arg6, main_arg7, main_arg8, main_arg9, main_arg10, main_arg11, main_arg12, main_arg13] : List (Ref sig .tc))) :
    V7 (Proc.devRef .tc b) = m ((SparseCore.T d).loc b) := by
  obtain ⟨V2, V4, V6, h2, h4, -, h6, rfl⟩ := h
  have e5 : b ∉ [main_v27, main_v28, main_v29, main_v30] := by revert b; decide
  have e6 : ∀ w, b ≠ Pipeline.arrRef (cfgs 1).spec w := by revert b; decide
  have e4 : b ≠ main_v24 ∧ b ≠ main_v25 := by revert b; decide
  have e3 : b ∉ [main_c_7, main_call0_v0, main_v23, main_v24] := by revert b; decide
  have e2 : b ≠ main_arg0 → ∀ w, b ≠ Pipeline.arrRef (cfgs 0).spec w := by revert b; decide
  have hV2 : V2 (Proc.devRef .tc b) = V1 m d (Proc.devRef .tc b) := by
    by_cases h0 : b = main_arg0
    · subst h0
      have h := h2.1 0
      have e := Pipeline.RDat.ArrAt_in (rdats (fun _ => V1 m d) 0 0 d) (0 : Fin 7) rfl (cfgs 0).N
      rw [show (rdats (fun _ => V1 m d) 0 0 d).ArrAt 0 (cfgs 0).N = _ from e] at h
      exact h
    · exact h2.2 b (e2 h0)
  rw [opsPost_other _ e5, h6.2 b e6]
  beta_reduce
  rw [h4 b e4.1 e4.2, opsMid_other _ e3, hV2]
  exact opsPre_other _ (by clear * - hb; revert b; decide)

end Cert.Proof.Seg
end
-- ==== Proof.Frames.lean ====
/-
  The frames: the kernel's at its words and at the ideal values, both from the one run, and the reference's.
-/
module

public import proofs.«01_k».proof.Defs
public import proofs.«01_k».proof.Proof.Run
public import proofs.«01_k».proof.Proof.Gen.Kernel
public import proofs.«01_k».proof.Proof.Gen.Pre_in_range
public import proofs.«01_k».proof.Proof.Gen.ReferenceIdeal.Run
public import Idealize.ShloMosaic.Lib.ReduceAll

@[expose] public section

noncomputable section

namespace Cert.Proof.Seg

open Cert.KernelIdeal Cert.KernelIdeal.Gen

open Idealize.ShloMosaic Idealize.SL.Sem

variable {F : FTy → Type} [FloatOps F] [∀ e, Nonempty (Elt F e)]

variable (m : (ℓ : Loc nD τ sig) → Buf (Elt F) ℓ)

/-- What the frame says of the arguments. -/
theorem args_kept {r : PUnit × MemSt nD τ sig (Elt F)} (h : QC m r) (c : Dev nD) :
    r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)
      ∧ r.2.mem ((SparseCore.T c).loc main_arg4) = m ((SparseCore.T c).loc main_arg4)
      ∧ r.2.mem ((SparseCore.T c).loc main_arg5) = m ((SparseCore.T c).loc main_arg5)
      ∧ r.2.mem ((SparseCore.T c).loc main_arg6) = m ((SparseCore.T c).loc main_arg6)
      ∧ r.2.mem ((SparseCore.T c).loc main_arg7) = m ((SparseCore.T c).loc main_arg7)
      ∧ r.2.mem ((SparseCore.T c).loc main_arg8) = m ((SparseCore.T c).loc main_arg8)
      ∧ r.2.mem ((SparseCore.T c).loc main_arg9) = m ((SparseCore.T c).loc main_arg9)
      ∧ r.2.mem ((SparseCore.T c).loc main_arg10) = m ((SparseCore.T c).loc main_arg10)
      ∧ r.2.mem ((SparseCore.T c).loc main_arg11) = m ((SparseCore.T c).loc main_arg11)
      ∧ r.2.mem ((SparseCore.T c).loc main_arg12) = m ((SparseCore.T c).loc main_arg12)
      ∧ r.2.mem ((SparseCore.T c).loc main_arg13) = m ((SparseCore.T c).loc main_arg13) := by
  obtain ⟨V7, hO, hV⟩ := h.1 c
  have k : ∀ b : Ref sig .tc, b.isScoped = false → b ∈ ([main_arg0, main_arg1, main_arg2, main_arg3, main_arg4, main_arg5, main_arg6, main_arg7, main_arg8, main_arg9, main_arg10, main_arg11, main_arg12, main_arg13] : List (Ref sig .tc))
      → r.2.mem ((SparseCore.T c).loc b) = m ((SparseCore.T c).loc b) := fun b hs hb => (hV b hs).trans (out_arg m hO b hb)
  exact ⟨k main_arg0 rfl (by decide), k main_arg1 rfl (by decide), k main_arg2 rfl (by decide), k main_arg3 rfl (by decide), k main_arg4 rfl (by decide), k main_arg5 rfl (by decide), k main_arg6 rfl (by decide), k main_arg7 rfl (by decide), k main_arg8 rfl (by decide), k main_arg9 rfl (by decide), k main_arg10 rfl (by decide), k main_arg11 rfl (by decide), k main_arg12 rfl (by decide), k main_arg13 rfl (by decide)⟩

/-- Every index is a row of the table of 512, as the precondition reads. -/
def InRange : Prop := ∀ (d : Dev nD) (j : S50000.Idx), (m ((SparseCore.T d).loc main_arg1) j : BitVec 32).toNat < 512

omit [∀ e, Nonempty (Elt F e)] in
/-- The precondition at one device says that its indices are rows of the table. -/
theorem lt_of_pre (a0 : FVec F Pre_in_range.S50000x1152 .f32) (a1 : IVec Pre_in_range.S50000 32) (a2 a6 a10 : FVec F Pre_in_range.S1152x1152 .f32) (a3 a7 a11 : FVec F Pre_in_range.S1152 .f32)
    (a4 : FVec F Pre_in_range.S1152x1 .f32) (a5 : FVec F Pre_in_range.S1 .f32) (a8 : FVec F Pre_in_range.S1152x3 .f32) (a9 : FVec F Pre_in_range.S3 .f32)
    (a12 : FVec F Pre_in_range.S1152x6 .f32) (a13 : FVec F Pre_in_range.S6 .f32)
    (h : Cert.Pre_in_range.fn (F := F) a0 a1 a2 a3 a4 a5 a6 a7 a8 a9 a10 a11 a12 a13 = fun _ => 1#1) (j : Pre_in_range.S50000.Idx) : (a1 j).toNat < 512 := by
  have e := Host.reduce_andi_all _ _ _ _ _ (congrFun h fun a => a.elim0) j
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [andi, cmpi, broadcastInDim, constantI, IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

omit [∀ e, Nonempty (Elt F e)] in
/-- The padding of the indices is row 0, so they stay in range. -/
theorem padIx_lt (x : (⟨S50000, .i32⟩ : BufTy).Contents (Elt F)) (hx : ∀ j, (x j : BitVec 32).toNat < 512) (j : S50176.Idx) : (padIx (F := F) x j : BitVec 32).toNat < 512 := by
  unfold padIx pad
  split
  · exact hx _
  · exact (by decide : (0#32).toNat < 512)

/-- The run from a memory whose indices are in range. -/
theorem run_of_inRange (ρ : Dev nD → PrngReg) (h : InRange m) :
    θ_run (Cert.KernelIdeal.defs (F := F)) (Cert.KernelIdeal.threads (F := F)) ⟨m, fun _ => 0, ρ⟩ (QC m) :=
  run_main m ρ fun d => padIx_lt _ (h d)

/-- The ideal kernel's precondition puts its indices in range. -/
theorem inRange_ideal (m : (ℓ : Loc nD τ sig) → Buf (Elt Ideal) ℓ) (h : Cert.Pre_KernelIdeal m) : InRange m := fun d =>
  lt_of_pre (F := Ideal) _ _ _ _ _ _ _ _ _ _ _ _ _ _ (h d)

/-- The kernel's precondition puts its indices in range. -/
theorem inRange_words (m : (ℓ : Loc Cert.Kernel.nD Cert.Kernel.τ Cert.Kernel.sig) → Buf (Elt Bits) ℓ) (h : Cert.Pre_Kernel m) :
    InRange (F := Bits) m := fun d =>
  lt_of_pre (F := Bits) _ _ _ _ _ _ _ _ _ _ _ _ _ _ (h d)

/-- The frame at any float values. -/
theorem frame_any (ρ : Dev nD → PrngReg) (h : InRange m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run Cert.KernelIdeal.defs _ _).mono (fun _ hq => ⟨fun c => args_kept m hq c, hq.2⟩) (run_of_inRange m ρ h)

/-- The frame of the kernel at the ideal values. -/
theorem frame_ideal : Cert.quiescent_KernelIdeal := fun m ρ h => frame_any (F := Ideal) m ρ (inRange_ideal m h)

/-- The reference's run keeps the arguments and has no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run (F := Ideal) m ρ)

end Cert.Proof.Seg
end
-- ==== Proof.Same.lean ====
/-
  The kernel at its words is the same program text as the kernel read at any float values: the bodies, the launch, @main;
  hence its frame.
-/
module

public import proofs.«01_k».proof.Proof.Gen.Kernel
public import proofs.«01_k».proof.Proof.Frames

@[expose] public section

set_option maxHeartbeats 2000000

noncomputable section

namespace Cert.Proof.Seg

open Idealize.ShloMosaic Idealize.SL.Sem

/-- The labels' bodies are the same. -/
theorem defs₀_same : @Cert.Kernel.defs₀ Bits _ _ = @Cert.KernelIdeal.defs₀ Bits _ _ := by
  funext p ℓ a
  match p, ℓ, a with
  | .tc, 0, (t, s) => exact rfl
  | .tc, 1, _ => exact rfl
  | .tc, 2, (t, s) => exact rfl
  | .scVector c s, 0, _ => exact rfl
  | .scVector c s, 1, _ => exact rfl
  | .scVector c s, 2, _ => exact rfl
  | .scScalar c, 0, _ => exact rfl
  | .scScalar c, 1, _ => exact rfl
  | .scScalar c, 2, _ => exact rfl

/-- The SparseCore launches are the same. -/
theorem sc_same : Cert.Kernel.sc (F := Bits) = Cert.KernelIdeal.sc (F := Bits) := rfl

/-- The definitions are the same. -/
theorem defs_same : Cert.Kernel.defs (F := Bits) = Cert.KernelIdeal.defs (F := Bits) :=
  congrArg (fun d => (Cert.KernelIdeal.sc (F := Bits)).defs (Pipeline.defs Cert.KernelIdeal.pcfgs d)) defs₀_same

open Cert.KernelIdeal in
open StableHlo (seqK) in
/-- @main is the same. -/
theorem main_same : Cert.Kernel.main (F := Bits) = Cert.KernelIdeal.main (F := Bits) := funext fun d =>
  (show Cert.Kernel.main (F := Bits) d = seqK opsPre (Prog.lift (.customCall (SparseCore.inner (Pipeline.entry 0)) ()) >>= fun _ =>
    seqK opsMid ((sc (F := Bits)).run d 0 >>= fun _ => Prog.lift (.customCall (SparseCore.inner (Pipeline.entry 1)) ()) >>= fun _ => seqK opsPost (pure ⟨⟩))) from rfl).trans (main_eq d).symm

/-- The threads are the same. -/
theorem threads_same : Cert.Kernel.threads (F := Bits) = Cert.KernelIdeal.threads (F := Bits) :=
  congrArg (fun f => (Cert.KernelIdeal.sc (F := Bits)).threads f) main_same

/-- A run of the one is a run of the other. -/
theorem run_same (σ) (Q) (h : θ_run (Cert.KernelIdeal.defs (F := Bits)) Cert.KernelIdeal.threads σ Q) :
    θ_run (Cert.Kernel.defs (F := Bits)) Cert.Kernel.threads σ Q := by
  rw [show Cert.Kernel.defs (F := Bits) = _ from defs_same, show Cert.Kernel.threads (F := Bits) = _ from threads_same]
  exact h

/-- The frame of the kernel at its words. -/
theorem frame_words : Cert.quiescent_Kernel := fun m ρ h => run_same _ _ (frame_any (F := Bits) m ρ (inRange_words m h))

end Cert.Proof.Seg
end
-- ==== Proof.Blocks.lean ====
/-
  What the two TensorCore calls leave in their result arrays, element by element: each element is the body's payload of the
  blocks fetched at the grid point that owns it.
-/
module

public import proofs.«01_k».proof.Proof.TcRegions
public import Idealize.ShloMosaic.Lib.Pipeline.Value
public import Idealize.ShloMosaic.Lib.ValueIdxCore

@[expose] public section

noncomputable section

namespace Cert.Proof.Seg

open Cert.KernelIdeal Cert.KernelIdeal.Gen
open Idealize.ShloMosaic Idealize.ShloMosaic.ValueIdx
open Idealize.ShloMosaic.SparseCore.Cfg (HIx)

variable {F : FTy → Type} [FloatOps F] [∀ e, Nonempty (Elt F e)]

/-- A property of an array's elements that every write-back of a block gives to the elements it writes holds, after the
    points below `n`, of every element that one of them wrote. -/
theorem arrAt_of_points {cfg : Pipeline.Cfg sig Λ₀} {c : Dev nD} (rd : Pipeline.RDat τ (Elt F) (HIx 1) ℕ UU ℕ cfg c) (w : Fin cfg.W)
    (Q : (i : (cfg.win w).arr.view.ty.Idx) → Elt F (cfg.win w).arr.view.ty.elt → Prop)
    (hQ : ∀ (u : Fin cfg.N) X, rd.Leaves w u X → ∀ j, Q (((cfg.win w).blk u).view.emb j)
      (_root_.cast (congrArg (Elt F) ((cfg.win w).blk u).view.elt_eq.symm) (X ((cfg.win w).xinj (cfg.grid.coords u) j)))) :
    ∀ n ≤ cfg.N, ∀ G, rd.ArrAt w n G → ∀ i, (∃ u : Fin cfg.N, u.val < n ∧ (cfg.win w).flush u = true ∧ ∃ j, ((cfg.win w).blk u).view.emb j = i) → Q i (G i) := by
  intro n
  induction n with
  | zero => rintro _ G _ i ⟨u, hu, _⟩; exact absurd hu (Nat.not_lt_zero _)
  | succ n ih =>
    rintro hn G hG i ⟨u, hu, hf, hi⟩
    rw [show rd.ArrAt w (n + 1) = (if (cfg.win w).flush ⟨n, hn⟩ then rd.ArrStep w ⟨n, hn⟩ (rd.ArrAt w n) else rd.ArrAt w n) from rd.ArrAt_succ w ⟨n, hn⟩] at hG
    have old : ∀ G₀, rd.ArrAt w n G₀ → u.val ≠ n → Q i (G₀ i) := fun G₀ h₀ hne => ih (Nat.le_of_lt hn) G₀ h₀ i ⟨u, by omega, hf, hi⟩
    by_cases hfn : (cfg.win w).flush ⟨n, hn⟩ = true
    · rw [if_pos hfn] at hG
      obtain ⟨G₀, X, h₀, hX, rfl⟩ := hG
      by_cases hm : ∃ j, ((cfg.win w).blk ⟨n, hn⟩).view.emb j = i
      · obtain ⟨j, rfl⟩ := hm
        rw [View.write_emb_of_mem _ _ (Finset.mem_univ j)]
        exact hQ ⟨n, hn⟩ X hX j
      · rw [View.write_of_not_mem _ _ _ fun q => hm (View.exists_emb_of_mem_set _ q)]
        refine old G₀ h₀ fun e => hm ?_
        have : u = ⟨n, hn⟩ := Fin.ext e
        subst this; exact hi
    · rw [if_neg hfn] at hG
      refine old G hG fun e => hfn ?_
      have : u = ⟨n, hn⟩ := Fin.ext e
      subst this; exact hf

/-! ## The first call -/

theorem coords0 : ∀ t : Fin cfg0.N, (grid0.coords t 0).val = t.val := by decide
theorem tr0 : ∀ t : Fin cfg0.N, cc0_transform_0 (grid0.coords t) = ![t.val, 0] := by decide
theorem tr5 : ∀ t : Fin cfg0.N, cc0_transform_5 (grid0.coords t) = ![t.val, 0] := by decide
theorem tr6 : ∀ t : Fin cfg0.N, cc0_transform_6 (grid0.coords t) = ![t.val, 0] := by decide
theorem xs0 : ∀ t : Fin cfg0.N, win0_0.xsize (grid0.coords t) 0 = min 1024 (50000 - 1024 * t.val) ∧ win0_0.xsize (grid0.coords t) 1 = 1152 := by decide
theorem xs6 : ∀ t : Fin cfg0.N, win0_6.xsize (grid0.coords t) 0 = min 1024 (50000 - 1024 * t.val) ∧ win0_6.xsize (grid0.coords t) 1 = 3 := by decide

/-- The fetched block of the rows: inside the array, the array's row. -/
theorem ft0_x (V : Valuation τ sig (Elt F)) (t : Fin cfg0.N) (e) (y : S1024x1152.Idx) (x : S50000x1152.Idx)
    (h0 : (x 0).val = 1024 * t.val + (y 0).val) (h1 : (x 1).val = (y 1).val) : ft0 V 0 t e y = V (Proc.devRef .tc main_arg0) x := by
  have hx0 : (x 0).val < 50000 := (x 0).isLt
  have hy0 : (y 0).val < 1024 := (y 0).isLt
  have hy1 : (y 1).val < 1152 := (y 1).isLt
  have hm : win0_0.moved (grid0.coords t) y = true := (win0_0.moved_iff _ y).mpr fun (a : Fin 2) => match a with
    | 0 => by show (y 0).val < _; rw [(xs0 t).1]; omega
    | 1 => by show (y 1).val < _; rw [(xs0 t).2]; omega
  show win0_0.fill (grid0.coords t) e _ y = _
  unfold Pipeline.Window.fill
  rw [dif_pos hm]
  show (V (Proc.devRef .tc main_arg0)) _ = _
  congr 1
  refine funext fun (a : Fin 2) => Fin.ext ?_
  match a with
  | 0 =>
    show cc0_transform_0 (grid0.coords t) 0 * 1024 + 1 * (y 0).val = _
    rw [tr0]; show t.val * 1024 + 1 * (y 0).val = _; omega
  | 1 =>
    show cc0_transform_0 (grid0.coords t) 1 * 1152 + 1 * (y 1).val = _
    rw [tr0]; show 0 * 1152 + 1 * (y 1).val = _; omega

/-- The weights' and biases' blocks are their whole arrays. -/
theorem ft0_w1 (V : Valuation τ sig (Elt F)) (t : Fin cfg0.N) (e) : ft0 V 1 t e = V (Proc.devRef .tc main_v1) := by
  funext (y : S1152x3456.Idx)
  show (V (Proc.devRef .tc main_v1)) _ = _
  congr 1
  refine funext fun (a : Fin 2) => Fin.ext ?_
  match a with
  | 0 => show 0 * 1152 + 1 * (y 0).val = (y 0).val; omega
  | 1 => show 0 * 3456 + 1 * (y 1).val = (y 1).val; omega
theorem ft0_b1 (V : Valuation τ sig (Elt F)) (t : Fin cfg0.N) (e) : ft0 V 2 t e = V (Proc.devRef .tc main_v3) := by
  funext (y : S1x3456.Idx)
  show (V (Proc.devRef .tc main_v3)) _ = _
  congr 1
  refine funext fun (a : Fin 2) => Fin.ext ?_
  match a with
  | 0 => show 0 * 1 + 1 * (y 0).val = (y 0).val; omega
  | 1 => show 0 * 3456 + 1 * (y 1).val = (y 1).val; omega
theorem ft0_w2 (V : Valuation τ sig (Elt F)) (t : Fin cfg0.N) (e) : ft0 V 3 t e = V (Proc.devRef .tc main_v17) := by
  funext (y : S3456x16.Idx)
  show (V (Proc.devRef .tc main_v17)) _ = _
  congr 1
  refine funext fun (a : Fin 2) => Fin.ext ?_
  match a with
  | 0 => show 0 * 3456 + 1 * (y 0).val = (y 0).val; omega
  | 1 => show 0 * 16 + 1 * (y 1).val = (y 1).val; omega
theorem ft0_b2 (V : Valuation τ sig (Elt F)) (t : Fin cfg0.N) (e) : ft0 V 4 t e = V (Proc.devRef .tc main_v21) := by
  funext (y : S1x16.Idx)
  show (V (Proc.devRef .tc main_v21)) _ = _
  congr 1
  refine funext fun (a : Fin 2) => Fin.ext ?_
  match a with
  | 0 => show 0 * 1 + 1 * (y 0).val = (y 0).val; omega
  | 1 => show 0 * 16 + 1 * (y 1).val = (y 1).val; omega

/-- What the first call leaves for a row and a column of a head: its payload at the row's grid point. -/
def At0 (V : Valuation τ sig (Elt F)) (r c : ℕ) (v : F .f32) : Prop :=
  ∃ (t : Fin cfg0.N) (e : S1024x1152.Idx → Elt F .f32) (y : S1024x16.Idx), r = 1024 * t.val + (y 0).val ∧ c = (y 1).val
    ∧ v = k0_pay1 (grid0.coords t) (ft0 V 0 t e) (V (Proc.devRef .tc main_v1)) (V (Proc.devRef .tc main_v3)) (V (Proc.devRef .tc main_v17)) (V (Proc.devRef .tc main_v21)) y

theorem left_energy {V : Dev nD → Valuation τ sig (Elt F)} {n : ℕ} {d : Dev nD} {V' : Valuation τ sig (Elt F)} (h : Left V n 0 d V') (x : S50176x8.Idx) :
    At0 (V d) (x 0).val (x 1).val (V' (Proc.devRef .tc main_v22_0) x) := by
  have hx0 : (x 0).val < 50176 := (x 0).isLt
  have hx1 : (x 1).val < 8 := (x 1).isLt
  refine arrAt_of_points (rdats V n 0 d) 5 (fun i v => At0 (V d) (i 0).val (i 1).val v) ?_ cfg0.N le_rfl _ (h.1 5) x ?_
  · rintro u X ⟨Y, _, e0, e1, e2, e3, e4, rfl⟩ (j : S1024x8.Idx)
    have hj1 : (j 1).val < 8 := (j 1).isLt
    refine ⟨u, e0, ix2 (j 0) (⟨(j 1).val, by omega⟩ : Fin 16), ?_, ?_, ?_⟩
    · show cc0_transform_5 (grid0.coords u) 0 * 1024 + 1 * (j 0).val = 1024 * u.val + (j 0).val
      rw [tr5]; show u.val * 1024 + 1 * (j 0).val = _; omega
    · show cc0_transform_5 (grid0.coords u) 1 * 8 + 1 * (j 1).val = (j 1).val
      rw [tr5]; show 0 * 8 + 1 * (j 1).val = _; omega
    · rw [ft0_w1, ft0_b1, ft0_w2, ft0_b2]
      show k0_pay2 _ _ _ _ _ _ _ = _
      unfold k0_pay2
      refine extractStridedSlice_apply _ _ _ _ _ fun (a : Fin 2) => ?_
      match a with
      | 0 => show (j 0).val = 0 + (j 0).val; omega
      | 1 => show (j 1).val = 0 + (j 1).val; omega
  · refine ⟨⟨(x 0).val / 1024, by show _ < grid0.N; rw [N_0]; omega⟩, Fin.isLt _, flush0_5 _, ?_⟩
    generalize ht : (⟨(x 0).val / 1024, _⟩ : Fin cfg0.N) = t
    have htv : t.val = (x 0).val / 1024 := by rw [← ht]
    refine ⟨ix2 (⟨(x 0).val % 1024, Nat.mod_lt _ (by decide)⟩ : Fin 1024) (⟨(x 1).val, hx1⟩ : Fin 8), ?_⟩
    refine funext fun (a : Fin 2) => Fin.ext ?_
    match a with
    | 0 =>
      show cc0_transform_5 (grid0.coords t) 0 * 1024 + 1 * ((x 0).val % 1024) = (x 0).val
      rw [tr5]; show t.val * 1024 + 1 * ((x 0).val % 1024) = (x 0).val; omega
    | 1 =>
      show cc0_transform_5 (grid0.coords t) 1 * 8 + 1 * (x 1).val = (x 1).val
      rw [tr5]; show 0 * 8 + 1 * (x 1).val = _; omega

theorem left_forces {V : Dev nD → Valuation τ sig (Elt F)} {n : ℕ} {d : Dev nD} {V' : Valuation τ sig (Elt F)} (h : Left V n 0 d V') (x : S50000x3.Idx) :
    At0 (V d) (x 0).val (8 + (x 1).val) (V' (Proc.devRef .tc main_v22_1) x) := by
  have hx0 : (x 0).val < 50000 := (x 0).isLt
  have hx1 : (x 1).val < 3 := (x 1).isLt
  refine arrAt_of_points (rdats V n 0 d) 6 (fun i v => At0 (V d) (i 0).val (8 + (i 1).val) v) ?_ cfg0.N le_rfl _ (h.1 6) x ?_
  · rintro u X ⟨Y, _, e0, e1, e2, e3, e4, rfl⟩ j
    have hj0 : (j 0).val < 1024 := lt_of_lt_of_le (j 0).isLt (win0_6.xsize_le (grid0.coords u) 0)
    have hj1 : (j 1).val < 3 := lt_of_lt_of_le (j 1).isLt (win0_6.xsize_le (grid0.coords u) 1)
    refine ⟨u, e0, ix2 (⟨(j 0).val, hj0⟩ : Fin 1024) (⟨8 + (j 1).val, by omega⟩ : Fin 16), ?_, ?_, ?_⟩
    · show cc0_transform_6 (grid0.coords u) 0 * 1024 + 1 * (j 0).val = 1024 * u.val + (j 0).val
      rw [tr6]; show u.val * 1024 + 1 * (j 0).val = _; omega
    · show 8 + (cc0_transform_6 (grid0.coords u) 1 * 3 + 1 * (j 1).val) = 8 + (j 1).val
      rw [tr6]; show 8 + (0 * 3 + 1 * (j 1).val) = _; omega
    · rw [ft0_w1, ft0_b1, ft0_w2, ft0_b2]
      show k0_pay3 _ _ _ _ _ _ _ = _
      unfold k0_pay3
      refine extractStridedSlice_apply _ _ _ _ _ fun (a : Fin 2) => ?_
      match a with
      | 0 => show (j 0).val = 0 + (j 0).val; omega
      | 1 => show 8 + (j 1).val = 8 + (j 1).val; rfl
  · refine ⟨⟨(x 0).val / 1024, by show _ < grid0.N; rw [N_0]; omega⟩, Fin.isLt _, flush0_6 _, ?_⟩
    generalize ht : (⟨(x 0).val / 1024, _⟩ : Fin cfg0.N) = t
    have htv : t.val = (x 0).val / 1024 := by rw [← ht]
    have k0 : (x 0).val % 1024 < win0_6.xsize (grid0.coords t) 0 := by rw [(xs6 t).1]; omega
    have k1 : (x 1).val < win0_6.xsize (grid0.coords t) 1 := by rw [(xs6 t).2]; omega
    refine ⟨fun (a : Fin 2) => match a with | 0 => ⟨(x 0).val % 1024, k0⟩ | 1 => ⟨(x 1).val, k1⟩, ?_⟩
    refine funext fun (a : Fin 2) => Fin.ext ?_
    match a with
    | 0 =>
      show cc0_transform_6 (grid0.coords t) 0 * 1024 + 1 * ((x 0).val % 1024) = (x 0).val
      rw [tr6]; show t.val * 1024 + 1 * ((x 0).val % 1024) = (x 0).val; omega
    | 1 =>
      show cc0_transform_6 (grid0.coords t) 1 * 3 + 1 * (x 1).val = (x 1).val
      rw [tr6]; show 0 * 3 + 1 * (x 1).val = _; omega

/-! ## The second call -/

/-- What the second call leaves: its payload of the tiles' rows. -/
theorem left_red {V : Dev nD → Valuation τ sig (Elt F)} {n : ℕ} {d : Dev nD} {V' : Valuation τ sig (Elt F)} (h : Left V n 1 d V') (x : S1x4096.Idx) :
    V' (Proc.devRef .tc main_v26) x = k2_pay1 (F := F) (V d (Proc.devRef .tc main_v25)) x := by
  have hf : ∀ t e, ft2 (V d) 0 t e = V d (Proc.devRef .tc main_v25) := fun t e => by
    funext (y : S32x4096.Idx)
    show (V d (Proc.devRef .tc main_v25)) _ = _
    congr 1
    refine funext fun (a : Fin 2) => Fin.ext ?_
    match a with
    | 0 => show 0 * 32 + 1 * (y 0).val = (y 0).val; omega
    | 1 => show 0 * 4096 + 1 * (y 1).val = (y 1).val; omega
  have he : ∀ (u : Fin cfg2.N) (j : S1x4096.Idx), (((cfg2.win 1).blk u).view.emb j : S1x4096.Idx) = j := fun u j => by
    refine funext fun (a : Fin 2) => Fin.ext ?_
    match a with
    | 0 => show 0 * 1 + 1 * (j 0).val = (j 0).val; omega
    | 1 => show 0 * 4096 + 1 * (j 1).val = (j 1).val; omega
  refine arrAt_of_points (rdats V n 1 d) 1 (fun i v => v = k2_pay1 (F := F) (V d (Proc.devRef .tc main_v25)) i) ?_ cfg2.N le_rfl _ (h.1 1) x ?_
  · rintro u X ⟨Y, _, e0, rfl⟩ (j : S1x4096.Idx)
    rw [hf]
    show k2_pay1 _ _ = k2_pay1 _ (((cfg2.win 1).blk u).view.emb j)
    rw [he]
    rfl
  · exact ⟨t2_0, Fin.isLt _, flush2_1 _, x, he _ _⟩

end Cert.Proof.Seg
end
-- ==== Proof.Payload.lean ====
/-
  The two TensorCore bodies over the reals, read at one element: the first is two matrix products with a tanh between them,
  masked below row 50000; the second is a sum over the tiles.
-/
module

public import proofs.«01_k».proof.Proof.Blocks
public import Idealize.ShloMosaic.Lib.MatmulPlain
public import Idealize.ShloMosaic.Lib.StableHlo.Predicate

@[expose] public section

noncomputable section

namespace Cert.Proof.Seg

open Cert.KernelIdeal Cert.KernelIdeal.Gen
open Idealize.ShloMosaic Idealize.ShloMosaic.ValueIdx
open scoped BigOperators

/-- The mask's bit at a row: the row's number is below 50000. -/
theorem mask_at (n r : ℕ) (hn : n < 49) (hr : r < 1024) :
    IntOp.cmpi .slt (IntOp.addi (Scalar.muli (BitVec.ofNat 32 n) 1024#32) (BitVec.ofNat 32 r)) 50000#32 = BitVec.ofBool (decide (1024 * n + r < 50000)) := by
  have e : IntOp.addi (Scalar.muli (BitVec.ofNat 32 n) 1024#32) (BitVec.ofNat 32 r) = BitVec.ofNat 32 (1024 * n + r) := by
    refine BitVec.eq_of_toNat_eq ?_
    show (BitVec.ofNat 32 n * 1024#32 + BitVec.ofNat 32 r).toNat = _
    simp only [BitVec.toNat_add, BitVec.toNat_mul, BitVec.toNat_ofNat]
    omega
  rw [e]
  show BitVec.ofBool (decide ((BitVec.ofNat 32 (1024 * n + r)).toInt < (50000#32 : BitVec 32).toInt)) = _
  rw [StableHlo.Predicate.toInt_ofNat_small _ (by omega), show (50000#32 : BitVec 32).toInt = 50000 by decide]
  exact congrArg BitVec.ofBool (decide_eq_decide.mpr (by omega))

theorem select_ofBool {α : Type} (p : Prop) [Decidable p] (a b : α) : Scalar.select (BitVec.ofBool (decide p)) a b = if p then a else b := by
  by_cases h : p
  · rw [if_pos h, decide_eq_true h]; rfl
  · rw [if_neg h, decide_eq_false h]; rfl

theorem row_at {M N : ℕ} (v : (⟨2, ![1, N]⟩ : Shape).Idx → EReal) (h : (⟨2, ![1, N]⟩ : Shape).Broadcasts ⟨2, ![M, N]⟩) (r : Fin M) (k : Fin N) :
    broadcastTo (⟨2, ![M, N]⟩ : Shape) v h (ix2 r k) = v (ix2 0 k) := by
  refine broadcastTo_apply _ _ _ _ fun (a : Fin 2) => ?_
  have := k.isLt
  match a with
  | 0 => rfl
  | 1 =>
    show k.val = if N = 1 then 0 else k.val
    split <;> omega

/-- The first body's 16 columns of a row. -/
theorem pay1_at (i : grid0.Coords) (v0 : Vec Ideal S1024x1152 .f32) (v2 : Vec Ideal S1152x3456 .bf16) (v5 : Vec Ideal S1x3456 .f32)
    (v11 : Vec Ideal S3456x16 .bf16) (v14 : Vec Ideal S1x16 .f32) (r : Fin 1024) (c : Fin 16) :
    k0_pay1 (F := Ideal) i v0 v2 v5 v11 v14 (ix2 r c) = (if 1024 * (i 0).val + r.val < 50000 then
      (∑ k : Fin 3456, Ideal.tanh ((∑ j : Fin 1152, (v0 (ix2 r j) : EReal) * (v2 (ix2 j k) : EReal)) + (v5 (ix2 0 k) : EReal)) * (v11 (ix2 k c) : EReal))
        + (v14 (ix2 0 c) : EReal) else 0 : EReal) := by
  have hi : (i 0).val < 49 := (i 0).isLt
  unfold k0_pay1
  simp only [shapeCast_self]
  rw [select_apply]
  refine (congrArg (fun b => Scalar.select b _ _) (?_ : _ = BitVec.ofBool (decide (1024 * (i 0).val + r.val < 50000)))).trans ?_
  · refine Eq.trans ?_ (mask_at (i 0).val r.val hi r.isLt)
    show IntOp.cmpi .slt (IntOp.addi _ (iota .tc S1024x16 32 [0] iota_S1024x16_d0_w32 (ix2 r c))) _ = _
    rw [iota_single_apply]
    rfl
  rw [select_ofBool]
  refine if_congr Iff.rfl ?_ Ideal.ofBits_zero_f32
  show (FloatOps.matmul (F := Ideal) (DotDims.plain 1024 3456 16) none _ _ _ (ix2 r c) : EReal) + broadcastTo _ v14 _ (ix2 r c) = _
  rw [Ideal.matmul_plain_apply]
  refine congrArg₂ (· + ·) ?_ (row_at v14 _ r c)
  refine (congrArg (· + _) (show constant (F := Ideal) S1024x16 .f32 0x00000000#32 (ix2 r c) = (0 : EReal) from Ideal.ofBits_zero_f32)).trans ((zero_add _).trans ?_)
  refine Finset.sum_congr rfl fun k _ => congrArg (· * _) ?_
  show Ideal.tanh ((FloatOps.matmul (F := Ideal) (DotDims.plain 1024 1152 3456) none _ _ _ (ix2 r k) : EReal) + broadcastTo _ v5 _ (ix2 r k)) = _
  rw [Ideal.matmul_plain_apply]
  refine congrArg Ideal.tanh (congrArg₂ (· + ·) ?_ (row_at v5 _ r k))
  exact (congrArg (· + _) (show constant (F := Ideal) S1024x3456 .f32 0x00000000#32 (ix2 r k) = (0 : EReal) from Ideal.ofBits_zero_f32)).trans (zero_add _)

/-- The second body's sum over the tiles. -/
theorem red_at (v0 : Vec Ideal S32x4096 .f32) (j : Fin 4096) :
    k2_pay1 (F := Ideal) v0 (ix2 0 j) = (∑ w : Fin 32, (v0 (ix2 w j) : EReal) : EReal) := by
  unfold k2_pay1
  simp only [shapeCast_self]
  refine (shapeCast_apply _ _ _ (ix1 j) ?_).trans ?_
  · rw [Shape.rowMajor_val_one, Shape.rowMajor_val_two]
    show j.val = 0 * 4096 + j.val
    omega
  refine (Ideal.multiReduction_add_single _ _ _ _ _ _).trans ?_
  refine Finset.sum_congr rfl fun w _ => congrArg v0 (funext fun (a : Fin 2) => ?_)
  match a with
  | 0 => rfl
  | 1 => rfl

/-- One head's value at a row: the hidden layer's tanh, weighted and shifted. -/
def head (X : Fin 1152 → EReal) (W1 : S1152x1152.Idx → EReal) (B1 : S1152.Idx → EReal) (w2 : Fin 1152 → EReal) (b2 : EReal) : EReal :=
  (∑ k : Fin 1152, Ideal.tanh ((∑ j : Fin 1152, X j * W1 (ix2 j k)) + B1 (ix1 k)) * w2 k) + b2

/-- A sum over the 3456 hidden units in which only one head's 1152 count. -/
theorem sum_one_head (f : Fin 3456 → EReal) (b : Fin 3) (h : ∀ k : Fin 3456, k.val / 1152 ≠ b.val → f k = 0) :
    ∑ k, f k = ∑ u : Fin 1152, f ⟨1152 * b.val + u.val, by have := b.isLt; have := u.isLt; omega⟩ := by
  let e : Fin 1152 ↪ Fin 3456 := ⟨fun u => ⟨1152 * b.val + u.val, by have := b.isLt; have := u.isLt; omega⟩, fun u v q => Fin.ext (by
    have := congrArg Fin.val q
    dsimp only at this
    omega)⟩
  refine Eq.trans ?_ (Finset.sum_map Finset.univ e f)
  refine (Finset.sum_subset (Finset.subset_univ _) fun k _ hk => h k fun q => hk ?_).symm
  exact Finset.mem_map.mpr ⟨⟨k.val % 1152, Nat.mod_lt _ (by decide)⟩, Finset.mem_univ _, Fin.ext (by
    show 1152 * b.val + k.val % 1152 = k.val
    omega)⟩

/-- What the first call leaves in a column whose weights lie in one head's rows: that head's value, and zero past row 50000. -/
theorem at0_head {V : Valuation τ sig (Elt Ideal)} {r c : ℕ} {v : Ideal .f32} (h : At0 (F := Ideal) V r c v) (b : Fin 3)
    (W1 : S1152x1152.Idx → EReal) (B1 : S1152.Idx → EReal) (w2 : Fin 1152 → EReal) (b2 : EReal)
    (h1 : ∀ (j u : Fin 1152) (k : Fin 3456), k.val = 1152 * b.val + u.val → (V (Proc.devRef .tc main_v1) (ix2 j k : S1152x3456.Idx) : EReal) = W1 (ix2 j u))
    (h3 : ∀ (u : Fin 1152) (k : Fin 3456), k.val = 1152 * b.val + u.val → (V (Proc.devRef .tc main_v3) (ix2 0 k : S1x3456.Idx) : EReal) = B1 (ix1 u))
    (h17 : ∀ (u : Fin 1152) (k : Fin 3456) (c' : Fin 16), c'.val = c → k.val = 1152 * b.val + u.val → (V (Proc.devRef .tc main_v17) (ix2 k c' : S3456x16.Idx) : EReal) = w2 u)
    (hz : ∀ (k : Fin 3456) (c' : Fin 16), c'.val = c → k.val / 1152 ≠ b.val → @Eq EReal (V (Proc.devRef .tc main_v17) (ix2 k c' : S3456x16.Idx)) 0)
    (h21 : ∀ c' : Fin 16, c'.val = c → (V (Proc.devRef .tc main_v21) (ix2 0 c' : S1x16.Idx) : EReal) = b2) :
    (v : EReal) = if hr : r < 50000 then head (fun j => V (Proc.devRef .tc main_arg0) (ix2 ⟨r, hr⟩ j : S50000x1152.Idx)) W1 B1 w2 b2 else 0 := by
  obtain ⟨t, e, y, hr, hc, rfl⟩ := h
  obtain ⟨yr, yc, rfl⟩ : ∃ (yr : Fin 1024) (yc : Fin 16), y = ix2 yr yc := ⟨y 0, y 1, eq_ix2 y⟩
  have hr' : r = 1024 * t.val + yr.val := hr
  have hc' : yc.val = c := hc.symm
  rw [pay1_at, coords0, ← hr']
  by_cases hlt : r < 50000
  · rw [if_pos hlt, dif_pos hlt, sum_one_head _ b fun k hk => by rw [hz k yc hc' hk, mul_zero]]
    unfold head
    refine congrArg₂ (· + ·) (Finset.sum_congr rfl fun u _ => ?_) (h21 yc hc')
    rw [h17 u _ yc hc' rfl, h3 u _ rfl]
    refine congrArg (fun q => Ideal.tanh (q + B1 (ix1 u)) * w2 u) (Finset.sum_congr rfl fun j _ => ?_)
    rw [h1 j u _ rfl, ft0_x V t e (ix2 yr j) (ix2 ⟨r, hlt⟩ j) hr' rfl]
  · rw [if_neg hlt, dif_neg hlt]

end Cert.Proof.Seg
end
-- ==== Proof.Acc.lean ====
/-
  The SparseCore tile's accumulator over the reals: after n steps a place of a lane's stretch holds the sum of the values
  that the steps so far put there, and the row that the tile leaves is the sum over its lanes and steps.
-/
module

public import proofs.«01_k».proof.Proof.TileVals
public import Idealize.ShloMosaic.PureOps.Ideal.Laws

@[expose] public section

noncomputable section

namespace Cert.Proof.Seg

open Cert.KernelIdeal Cert.KernelIdeal.Gen
open Idealize.ShloMosaic
open scoped BigOperators

/-- An accumulating indexed store, read at one place: what was there and every lane's value that names the place. -/
theorem storeIdx_add_at {s : Shape} {d : Fin 1 → ℕ} (f : Vec Ideal s .f32) (idxs : Fin s.rank → IVec ⟨1, d⟩ 32) (v : Vec Ideal ⟨1, d⟩ .f32)
    (h : ∀ a x, (idxs a x).toNat < s.size a) (i : s.Idx) :
    storeIdx f idxs v (fun _ => 1#1) true h i
      = ((f i : EReal) + ∑ k : Fin (d 0), if (∀ a, (i a).val = (idxAt idxs h (Shape.ofLane k) a).val) then (v (Shape.ofLane k) : EReal) else 0 : EReal) := by
  rw [Fin.sum_univ_def]
  unfold storeIdx
  generalize List.finRange (d 0) = l
  induction l generalizing f with
  | nil => simp
  | cons k l ih =>
    rw [List.foldl_cons, ih, List.map_cons, List.sum_cons, ← add_assoc]
    congr 1
    refine (congrFun (if_pos (rfl : (1#1 : BitVec 1) = 1)) i).trans ?_
    by_cases e : ∀ a, (i a).val = (idxAt idxs h (Shape.ofLane k) a).val
    · have ei : i = idxAt idxs h (Shape.ofLane k) := funext fun a => Fin.ext (e a)
      rw [if_pos e, if_pos e, ei]
      rfl
    · rw [if_neg e, if_neg e, add_zero]

/-- What step `t` adds at place `j` of lane `r`'s stretch, from the indices and the values as functions of positions. -/
def hit (IX : ℕ → ℕ) (VV : ℕ → EReal) (j r t : ℕ) : EReal := if 8 * IX (2 * t + r / 8) + r % 8 = j then VV (16 * t + r) else 0

theorem stepVals_at (lv : Vec Ideal S12544 .f32) (VV : ℕ → EReal) (hv : ∀ x : S12544.Idx, lv x = VV (x 0).val) (t : Fin k1_t2_loop.trips) (x : S16.Idx) :
    stepVals lv t x = VV (16 * t.val + (x 0).val) := by
  unfold stepVals
  simp only [View.readAt_apply, Memref.view_whole, View.read_whole]
  rw [hv]
  congr 1
  rw [LoadRect.idx_apply]
  show k1_off4 t 0 + 1 * (x 0).val = _
  rw [k1_off4_eq]
  show 16 * t.val + 1 * (x 0).val = _
  omega

theorem gather_at (li : Vec Ideal S1568 .i32) (IX : ℕ → ℕ) (hi : ∀ x : S1568.Idx, (li x : BitVec 32).toNat = IX (x 0).val) (t : Fin k1_t2_loop.trips)
    (h : k1_chk1 (k1_pay3 t)) (x : S16.Idx) : (loadIdx (F := Ideal) li ![k1_pay3 t] h x : BitVec 32).toNat = IX (2 * t.val + (x 0).val / 8) := by
  unfold loadIdx
  rw [hi]
  congr 1
  exact pay3_toNat t x

/-- The accumulator after `n` steps. -/
theorem accN_at (li : Vec Ideal S1568 .i32) (lv : Vec Ideal S12544 .f32) (IX : ℕ → ℕ) (VV : ℕ → EReal)
    (hi : ∀ x : S1568.Idx, (li x : BitVec 32).toNat = IX (x 0).val) (hI : ∀ n < 1568, IX n < 512) (hv : ∀ x : S12544.Idx, lv x = VV (x 0).val)
    (r : Fin 16) (j : Fin 4096) : ∀ n ≤ 784, accN (F := Ideal) li lv n (cell r j) = ∑ t ∈ Finset.range n, hit IX VV j.val r.val t := by
  intro n
  induction n with
  | zero => intro _; exact Ideal.ofBits_zero_f32
  | succ n ih =>
    intro hn
    have ht : n < k1_t2_loop.trips := by rw [trips2]; omega
    rw [Finset.sum_range_succ, ← ih (by omega), show accN li lv (n + 1) = _ from accN_succ li lv ⟨n, ht⟩]
    have hg : ∀ x, (loadIdx (F := Ideal) li ![k1_pay3 ⟨n, ht⟩] (chk1_holds ⟨n, ht⟩) x : BitVec 32).toNat < 512 := fun x => by
      have hx : (x 0).val < 16 := (x 0).isLt
      rw [gather_at li IX hi]; exact hI _ (by show 2 * n + _ < _; omega)
    rw [accStep_eq li lv ⟨n, ht⟩ _ (chk1_holds _) (chk2_holds _ hg)]
    refine (storeIdx_add_at _ _ _ _ _).trans ?_
    congr 1
    have hp : ∀ k : Fin 16, (∀ a : Fin 1, (cell r j a).val = (idxAt (s := S65536) ![k1_pay4 (F := Ideal) (loadIdx (F := Ideal) li ![k1_pay3 ⟨n, ht⟩] (chk1_holds ⟨n, ht⟩))] (chk2_holds _ hg) (Shape.ofLane (d := ![16]) k) a).val)
        ↔ (k = r ∧ 8 * IX (2 * n + r.val / 8) + r.val % 8 = j.val) := fun k => by
      rw [Fin.forall_fin_one]
      have e : (idxAt (s := S65536) ![k1_pay4 (F := Ideal) (loadIdx (F := Ideal) li ![k1_pay3 ⟨n, ht⟩] (chk1_holds ⟨n, ht⟩))] (chk2_holds _ hg) (Shape.ofLane (d := ![16]) k) 0).val
          = 4096 * k.val + (8 * IX (2 * n + k.val / 8) + k.val % 8) := by
        refine (pay4_toNat _ (Shape.ofLane (d := ![16]) k) (hg _)).trans ?_
        rw [gather_at li IX hi]
        rfl
      rw [e]
      have h1 : IX (2 * n + k.val / 8) < 512 := hI _ (by have := k.isLt; omega)
      have hj := j.isLt
      show 4096 * r.val + j.val = _ ↔ _
      constructor
      · intro q
        have : k = r := Fin.ext (by omega)
        subst this
        exact ⟨rfl, by omega⟩
      · rintro ⟨rfl, q⟩; omega
    refine (Finset.sum_eq_single (r : Fin 16) (fun k _ hk => if_neg fun q => hk ((hp k).mp q).1) (fun q => absurd (Finset.mem_univ _) q)).trans ?_
    unfold hit
    by_cases q : 8 * IX (2 * n + r.val / 8) + r.val % 8 = j.val
    · rw [if_pos ((hp r).mpr ⟨rfl, q⟩), if_pos q]
      exact stepVals_at lv VV hv ⟨n, ht⟩ _
    · rw [if_neg fun c => q ((hp r).mp c).2, if_neg q]

/-- The row a tile leaves. -/
theorem segRow_at (li : Vec Ideal S1568 .i32) (lv : Vec Ideal S12544 .f32) (IX : ℕ → ℕ) (VV : ℕ → EReal)
    (hi : ∀ x : S1568.Idx, (li x : BitVec 32).toNat = IX (x 0).val) (hI : ∀ n < 1568, IX n < 512) (hv : ∀ x : S12544.Idx, lv x = VV (x 0).val)
    (j : S4096.Idx) : segRow (F := Ideal) li lv j = ∑ r ∈ Finset.range 16, ∑ t ∈ Finset.range 784, hit IX VV (j 0).val r t := by
  have h : ∀ r : Fin 16, (accN (F := Ideal) li lv k1_t2_loop.trips (cell r (j 0)) : EReal) = ∑ t ∈ Finset.range 784, hit IX VV (j 0).val r.val t := fun r => by
    rw [trips2]; exact accN_at li lv IX VV hi hI hv r (j 0) 784 le_rfl
  have e : segRow (F := Ideal) li lv j = ∑ r : Fin 16, (accN (F := Ideal) li lv k1_t2_loop.trips (cell r (j 0)) : EReal) := by
    rw [Fin.sum_univ_def]
    generalize hA : accN (F := Ideal) li lv k1_t2_loop.trips = A at *
    show sum16 (accN (F := Ideal) li lv k1_t2_loop.trips) (j 0) = _
    rw [hA]
    simp only [List.finRange_succ, List.finRange_zero, List.map_cons, List.map_nil, List.sum_cons, List.sum_nil]
    unfold sum16
    simp only [List.foldl_cons, List.foldl_nil, Ideal.addf_def, add_zero, add_assoc]
    rfl
  rw [e, Finset.sum_congr rfl fun r _ => h r]
  exact Fin.sum_univ_eq_sum_range (fun r => ∑ t ∈ Finset.range 784, hit IX VV (j 0).val r t) 16

end Cert.Proof.Seg
end
-- ==== Proof.Total.lean ====
/-
  The tiles' sums put together: over all tiles, lanes and steps a segment's column receives exactly the values of the rows
  whose index names the segment.
-/
module

public import proofs.«01_k».proof.Proof.Acc

@[expose] public section

noncomputable section

namespace Cert.Proof.Seg

open scoped BigOperators

/-- A sum over blocks of equal length is the sum over their places. -/
theorem sum_blocks (a b : ℕ) (g : ℕ → EReal) : ∑ w ∈ Finset.range a, ∑ n ∈ Finset.range b, g (b * w + n) = ∑ n ∈ Finset.range (b * a), g n := by
  induction a with
  | zero => simp
  | succ a ih => rw [Finset.sum_range_succ, ih, Nat.mul_succ, Finset.sum_range_add]

/-- Among the eight columns of a row one is the column asked for. -/
theorem sum_eight (q s c : ℕ) (hc : c < 8) (f : ℕ → EReal) : ∑ u ∈ Finset.range 8, (if 8 * q + u = 8 * s + c then f u else 0) = if q = s then f c else 0 := by
  rw [Finset.sum_eq_single c (fun u hu hne => if_neg (by have := Finset.mem_range.mp hu; omega)) (fun h => absurd (Finset.mem_range.mpr hc) h)]
  exact if_congr (by omega) rfl rfl

/-- The lanes of a step take two rows of eight columns. -/
theorem sum_step (IX : ℕ → ℕ) (VV : ℕ → EReal) (s c t : ℕ) (hc : c < 8) :
    ∑ r ∈ Finset.range 16, hit IX VV (8 * s + c) r t = ∑ e ∈ Finset.range 2, (if IX (2 * t + e) = s then VV (8 * (2 * t + e) + c) else 0) := by
  rw [← sum_blocks 2 8 fun r => hit IX VV (8 * s + c) r t]
  refine Finset.sum_congr rfl fun e _ => ?_
  rw [← sum_eight (IX (2 * t + e)) s c hc fun u => VV (8 * (2 * t + e) + u)]
  refine Finset.sum_congr rfl fun u hu => ?_
  have := Finset.mem_range.mp hu
  unfold hit
  rw [show (8 * e + u) / 8 = e by omega, show (8 * e + u) % 8 = u by omega, show 16 * t + (8 * e + u) = 8 * (2 * t + e) + u by omega]

/-- All tiles, lanes and steps together. -/
theorem sum_tiles (IX : ℕ → ℕ) (VV : ℕ → EReal) (s c : ℕ) (hc : c < 8) (hz : ∀ n, 50000 ≤ n → n < 50176 → VV (8 * n + c) = 0) :
    ∑ w ∈ Finset.range 32, ∑ r ∈ Finset.range 16, ∑ t ∈ Finset.range 784, hit (fun n => IX (1568 * w + n)) (fun q => VV (12544 * w + q)) (8 * s + c) r t
      = ∑ n ∈ Finset.range 50000, if IX n = s then VV (8 * n + c) else 0 := by
  have step : ∀ w, ∑ r ∈ Finset.range 16, ∑ t ∈ Finset.range 784, hit (fun n => IX (1568 * w + n)) (fun q => VV (12544 * w + q)) (8 * s + c) r t
      = ∑ n ∈ Finset.range 1568, if IX (1568 * w + n) = s then VV (8 * (1568 * w + n) + c) else 0 := fun w => by
    rw [Finset.sum_comm, ← sum_blocks 784 2 fun n => if IX (1568 * w + n) = s then VV (8 * (1568 * w + n) + c) else 0]
    refine Finset.sum_congr rfl fun t _ => (sum_step _ _ s c t hc).trans (Finset.sum_congr rfl fun e _ => ?_)
    rw [show 12544 * w + (8 * (2 * t + e) + c) = 8 * (1568 * w + (2 * t + e)) + c by omega]
  rw [Finset.sum_congr rfl fun w _ => step w, sum_blocks 32 1568 fun n => if IX n = s then VV (8 * n + c) else 0]
  rw [show 1568 * 32 = 50000 + 176 from rfl, Finset.sum_range_add]
  rw [Finset.sum_eq_zero (s := Finset.range 176) fun n hn => ?_, add_zero]
  have := Finset.mem_range.mp hn
  rw [hz (50000 + n) (by omega) (by omega), ite_self]

end Cert.Proof.Seg
end
-- ==== Proof.Cells.lean ====
/-
  What the calls leave over the reals, read at one element: the first call's values are fixed by their row and column, and each
  tile's row of partial sums counts the first call's values at the padded indices.
-/
module

public import proofs.«01_k».proof.Proof.Run
public import proofs.«01_k».proof.Proof.Payload
public import proofs.«01_k».proof.Proof.Total
public import Idealize.ShloMosaic.Lib.Routing.Ops

@[expose] public section

noncomputable section

namespace Cert.Proof.Seg

open Cert.KernelIdeal Cert.KernelIdeal.Gen
open Idealize.ShloMosaic Idealize.ShloMosaic.ValueIdx Idealize.ShloMosaic.Routing
open scoped BigOperators

/-- A row's value over all three heads' hidden units. -/
def wide (X : Fin 1152 → EReal) (W1 : S1152x3456.Idx → EReal) (B1 : S1x3456.Idx → EReal) (w2 : Fin 3456 → EReal) (b2 : EReal) : EReal :=
  (∑ k : Fin 3456, Ideal.tanh ((∑ j : Fin 1152, X j * W1 (ix2 j k)) + B1 (ix2 0 k)) * w2 k) + b2

/-- The first call's value at a row and a column. -/
def cellv (V : Valuation τ sig (Elt Ideal)) (r c : ℕ) : EReal :=
  if h : r < 50000 ∧ c < 16 then
    wide (fun j => V (Proc.devRef .tc main_arg0) (ix2 ⟨r, h.1⟩ j : S50000x1152.Idx)) (V (Proc.devRef .tc main_v1)) (V (Proc.devRef .tc main_v3))
      (fun k => V (Proc.devRef .tc main_v17) (ix2 k ⟨c, h.2⟩ : S3456x16.Idx)) (V (Proc.devRef .tc main_v21) (ix2 0 ⟨c, h.2⟩ : S1x16.Idx))
  else 0

theorem at0_cell {V : Valuation τ sig (Elt Ideal)} {r c : ℕ} {v : Ideal .f32} (h : At0 (F := Ideal) V r c v) : (v : EReal) = cellv V r c := by
  obtain ⟨t, e, y, hr, hc, rfl⟩ := h
  obtain ⟨yr, yc, rfl⟩ : ∃ (yr : Fin 1024) (yc : Fin 16), y = ix2 yr yc := ⟨y 0, y 1, eq_ix2 y⟩
  have hr' : r = 1024 * t.val + yr.val := hr
  have hc' : c = yc.val := hc
  subst hc'
  rw [pay1_at, coords0, ← hr']
  unfold cellv
  by_cases hlt : r < 50000
  · rw [if_pos hlt, dif_pos ⟨hlt, yc.isLt⟩]
    unfold wide
    refine congrArg (· + _) (Finset.sum_congr rfl fun k _ => ?_)
    refine congrArg (fun q : EReal => Ideal.tanh (q + _) * _) (Finset.sum_congr rfl fun j _ => ?_)
    rw [ft0_x V t e (ix2 yr j) (ix2 ⟨r, hlt⟩ j) hr' rfl]
  · rw [if_neg hlt, dif_neg fun k => hlt k.1]

theorem cell_past (V : Valuation τ sig (Elt Ideal)) (r c : ℕ) (h : 50000 ≤ r) : cellv V r c = 0 := dif_neg fun k => absurd k.1 (by omega)

variable (m : (ℓ : Loc nD τ sig) → Buf (Elt Ideal) ℓ)

/-- The padded index at a row. -/
def ixv (d : Dev nD) (n : ℕ) : ℕ := if h : n < 50176 then (padIx (F := Ideal) (m ((SparseCore.T d).loc main_arg1)) (ix1 ⟨n, h⟩) : BitVec 32).toNat else 0

theorem ixv_row (d : Dev nD) (n : Fin 50000) : ixv m d n.val = (m ((SparseCore.T d).loc main_arg1) (ix1 n : S50000.Idx) : BitVec 32).toNat := by
  have hn := n.isLt
  unfold ixv
  rw [dif_pos (by omega)]
  refine congrArg BitVec.toNat ((pad1 (n := 50000) (m := 50176) (lo := 0) (hi := 176) _ _ _ _ _).trans ?_)
  exact dif_pos ⟨Nat.zero_le _, hn⟩

/-- The values that a tile is handed are the first call's, laid flat. -/
theorem good_at (d : Dev nD) (v : Vec Ideal S401408 .f32) (h : (spec m).good d v) (x : S401408.Idx) :
    (v x : EReal) = cellv (V1 m d) ((x 0).val / 8) ((x 0).val % 8) := by
  obtain ⟨V2, h, rfl⟩ := h
  obtain ⟨p, rfl⟩ : ∃ p : Fin 401408, x = ix1 p := ⟨x 0, eq_ix1 x⟩
  have hp := p.isLt
  refine (cast21 (a := 50176) (b := 8) (n := 401408) _ _ ⟨p.val / 8, by omega⟩ ⟨p.val % 8, Nat.mod_lt _ (by decide)⟩ p (by
    show p.val = p.val / 8 * 8 + p.val % 8
    omega)).trans ?_
  exact at0_cell (left_energy h (ix2 ⟨p.val / 8, by omega⟩ ⟨p.val % 8, Nat.mod_lt _ (by decide)⟩))

/-! ## A tile's parts of the arrays -/

theorem read_iSl (L : grid1.Coords) (f : Vec Ideal S50176 .i32) (x : S1568.Idx) (y : S50176.Idx) (hy : (y 0).val = 1568 * tileNo L + (x 0).val) :
    (iSl L).view.read (Elt Ideal) f x = f y := by
  show f _ = f y
  refine congrArg f (funext fun (a : Fin 1) => Fin.ext ?_)
  match a with
  | 0 =>
    show k1_off1 L 0 + 1 * (x 0).val = (y 0).val
    rw [k1_off1_eq, hy]
    show 3136 * (L 1).val + 1568 * (L 0).val + 1 * (x 0).val = _
    unfold tileNo
    omega

theorem read_vSl (L : grid1.Coords) (f : Vec Ideal S401408 .f32) (x : S12544.Idx) (y : S401408.Idx) (hy : (y 0).val = 12544 * tileNo L + (x 0).val) :
    (vSl L).view.read (Elt Ideal) f x = f y := by
  show f _ = f y
  refine congrArg f (funext fun (a : Fin 1) => Fin.ext ?_)
  match a with
  | 0 =>
    show k1_off2 L 0 + 1 * (x 0).val = (y 0).val
    rw [k1_off2_eq, hy]
    show 25088 * (L 1).val + 12544 * (L 0).val + 1 * (x 0).val = _
    unfold tileNo
    omega

theorem read_oSl (L : grid1.Coords) (f : Vec Ideal S32x4096 .f32) (j : Fin 4096) (w : Fin 32) (hw : w.val = tileNo L) :
    (oSl L).view.read (Elt Ideal) f (ix1 j) = f (ix2 w j) := by
  have hc : S1x4096.ShapeCasts S4096 := by decide
  refine (congrFun (Memref.read_squeeze_slice (Memref.whole main_v25_scv) (Rect.unit (s := S32x4096) (k1_off8 L) S1x4096.size (k1_off8_inb L)) (fun _ => rfl) squeezes_S1x4096_S4096 hc f) (ix1 j)).trans ?_
  refine (cast21 (a := 1) (b := 4096) (n := 4096) _ hc 0 j j (by rw [show ((0 : Fin 1).val) = 0 from rfl, Nat.zero_mul, Nat.zero_add])).trans ?_
  show f _ = f _
  refine congrArg f (funext fun (a : Fin 2) => Fin.ext ?_)
  match a with
  | 0 =>
    show k1_off8 L 0 + 1 * 0 = w.val
    rw [k1_off8_eq, hw]
    rfl
  | 1 =>
    show k1_off8 L 1 + 1 * j.val = j.val
    rw [k1_off8_eq]
    show 0 + 1 * j.val = j.val
    omega

/-- A tile's row of the partial sums. -/
theorem rows_at (d : Dev nD) (hin : ∀ j : S50000.Idx, (m ((SparseCore.T d).loc main_arg1) j : BitVec 32).toNat < 512)
    (f : Vec Ideal S32x4096 .f32) (h : Rows (spec m) d f) (w : Fin 32) (j : Fin 4096) :
    (f (ix2 w j) : EReal) = ∑ r ∈ Finset.range 16, ∑ t ∈ Finset.range 784,
      hit (fun n => ixv m d (1568 * w.val + n)) (fun q => cellv (V1 m d) ((12544 * w.val + q) / 8) ((12544 * w.val + q) % 8)) j.val r t := by
  have hw := w.isLt
  obtain ⟨v, hv, e⟩ := h (tileOf w.val hw)
  have hn := tileNo_tileOf w.val hw
  rw [← read_oSl (tileOf w.val hw) f j w hn.symm, e]
  refine segRow_at _ _ _ _ (fun x => ?_) (fun n hx => ?_) (fun x => ?_) (ix1 j)
  · have hx : (x 0).val < 1568 := (x 0).isLt
    unfold ixv
    rw [dif_pos (by omega)]
    exact congrArg BitVec.toNat (read_iSl _ _ x (ix1 ⟨1568 * w.val + (x 0).val, by omega⟩) (by rw [hn]))
  · unfold ixv
    rw [dif_pos (by omega)]
    unfold padIx pad
    split
    · exact hin _
    · exact (by decide : (0#32).toNat < 512)
  · have hx : (x 0).val < 12544 := (x 0).isLt
    exact (read_vSl _ v x (ix1 ⟨12544 * w.val + (x 0).val, by omega⟩) (by rw [hn])).trans (good_at m d v hv _)

/-- The reduced sums: at a segment's column, the first call's values of the rows whose index names the segment. -/
theorem red_sum (d : Dev nD) (hin : ∀ j : S50000.Idx, (m ((SparseCore.T d).loc main_arg1) j : BitVec 32).toNat < 512)
    (f : Vec Ideal S32x4096 .f32) (h : Rows (spec m) d f) (s : Fin 512) (c : Fin 8) (j : Fin 4096) (hj : j.val = 8 * s.val + c.val) :
    (k2_pay1 (F := Ideal) f (ix2 0 j) : EReal)
      = ∑ n : Fin 50000, if (m ((SparseCore.T d).loc main_arg1) (ix1 n : S50000.Idx) : BitVec 32).toNat = s.val then cellv (V1 m d) n.val c.val else 0 := by
  have hc := c.isLt
  rw [red_at]
  refine (Finset.sum_congr rfl fun w _ => rows_at m d hin f h w j).trans ?_
  rw [hj]
  refine (Fin.sum_univ_eq_sum_range (fun w => ∑ r ∈ Finset.range 16, ∑ t ∈ Finset.range 784,
    hit (fun n => ixv m d (1568 * w + n)) (fun q => cellv (V1 m d) ((12544 * w + q) / 8) ((12544 * w + q) % 8)) (8 * s.val + c.val) r t) 32).trans ?_
  refine (sum_tiles (ixv m d) (fun q => cellv (V1 m d) (q / 8) (q % 8)) s.val c.val hc fun n hn _ => ?_).trans ?_
  · exact cell_past _ _ _ (by omega)
  rw [← Fin.sum_univ_eq_sum_range (fun n => if ixv m d n = s.val then cellv (V1 m d) ((8 * n + c.val) / 8) ((8 * n + c.val) % 8) else 0) 50000]
  refine Finset.sum_congr rfl fun n _ => ?_
  rw [ixv_row, show (8 * n.val + c.val) / 8 = n.val by omega, show (8 * n.val + c.val) % 8 = c.val by omega]

end Cert.Proof.Seg
end
-- ==== Proof.Weights.lean ====
/-
  The arrays that the host prepares before the first call, read at one element: the three heads' hidden weights and biases side
  by side, their output weights in three blocks of a table of zeros, and their output biases in one row.
-/
module

public import proofs.«01_k».proof.Proof.HostOps
public import Idealize.ShloMosaic.Lib.Routing.OpsOne
public import Idealize.ShloMosaic.Lib.Pipeline.Value
public import Idealize.ShloMosaic.PureOps.Ideal.Laws

@[expose] public section

noncomputable section

namespace Cert.Proof.Seg

open Cert.KernelIdeal Cert.KernelIdeal.Gen
open Idealize.ShloMosaic Idealize.ShloMosaic.ValueIdx Idealize.ShloMosaic.Routing
open Idealize.ShloMosaic.StableHlo (after)

variable {F : FTy → Type} [FloatOps F]

/-- A block set at one pair of index words, read at an element: the block's element inside the block, the operand's outside. -/
theorem scatter_block {α : Type} {R C U W : ℕ} (d : ScatterDims (shape2 R C) (shape1 2) (shape2 U W)) (huw : d.updateWindowDims = [0, 1])
    (hiw : d.insertedWindowDims = []) (hsd : d.scatterDimsToOperandDims = [0, 1]) (hivd : d.indexVectorDim = 0)
    (x : (shape2 R C).Idx → α) (idx : IVec (shape1 2) 32) (upd : (shape2 U W).Idx → α) (r0 c0 : ℕ)
    (h0 : (idx (ix1 (0 : Fin 2))).toInt = r0) (h1 : (idx (ix1 (1 : Fin 2))).toInt = c0) (r : Fin R) (c : Fin C) :
    Host.scatter d (fun _ b => b) x idx upd (ix2 r c)
      = if h : (r0 ≤ r.val ∧ r.val < r0 + U) ∧ (c0 ≤ c.val ∧ c.val < c0 + W) then upd (ix2 ⟨r.val - r0, by omega⟩ ⟨c.val - c0, by omega⟩) else x (ix2 r c) := by
  have lands : ∀ (a : Fin U) (b : Fin W), d.resultIdx? (ix2 a b) idx = some (ix2 r c) ↔ r0 + a.val = r.val ∧ c0 + b.val = c.val := fun a b => by
    have w0 : d.window (ix2 a b) 0 = a.val ∧ d.window (ix2 a b) 1 = b.val := by
      obtain ⟨uw, iw, sd, iv, wf⟩ := d
      dsimp only at huw hiw hsd hivd
      subst huw hiw hsd hivd
      exact ⟨rfl, rfl⟩
    rw [resultIdx?_ix2, start_pair d hsd hivd, start_pair d hsd hivd, h0, h1, w0.1, w0.2]
    omega
  have lands' : ∀ k : (shape2 U W).Idx, d.resultIdx? k idx = some (ix2 r c) → r0 + (k 0).val = r.val ∧ c0 + (k 1).val = c.val := fun k hk =>
    (lands (k 0) (k 1)).1 ((congrArg (fun t => d.resultIdx? t idx) (eq_ix2 k).symm).trans hk)
  by_cases h : (r0 ≤ r.val ∧ r.val < r0 + U) ∧ (c0 ≤ c.val ∧ c.val < c0 + W)
  · rw [dif_pos h]
    refine scatter_set_hit d x idx upd _ _ (fun k hk => ?_) (ix2 ⟨r.val - r0, by omega⟩ ⟨c.val - c0, by omega⟩) ((lands _ _).2 ⟨?_, ?_⟩)
    · obtain ⟨q0, q1⟩ := lands' k hk
      rw [eq_ix2 k]
      congr 2
      · refine Fin.ext ?_
        show (k 0).val = r.val - r0
        omega
      · refine Fin.ext ?_
        show (k 1).val = c.val - c0
        omega
    · show r0 + (r.val - r0) = r.val; omega
    · show c0 + (c.val - c0) = c.val; omega
  · rw [dif_neg h]
    refine scatter_set_miss d x idx upd _ fun k hk => h ?_
    obtain ⟨q0, q1⟩ := lands' k hk
    have a0 : (k 0).val < U := (k 0).isLt
    have a1 : (k 1).val < W := (k 1).isLt
    omega

/-- Two words side by side as they print. -/
abbrev pairIx (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

open StableHlo in
theorem pre_v1 (V : Valuation τ sig (Elt F)) : after opsPre V (Proc.devRef .tc main_v1)
    = truncf .bf16 (concatenate S1152x3456 1 [⟨S1152x1152, (V (Proc.devRef .tc main_arg2) : (⟨S1152x1152, .f32⟩ : BufTy).Contents (Elt F))⟩, ⟨S1152x1152, (V (Proc.devRef .tc main_arg6) : (⟨S1152x1152, .f32⟩ : BufTy).Contents (Elt F))⟩, ⟨S1152x1152, (V (Proc.devRef .tc main_arg10) : (⟨S1152x1152, .f32⟩ : BufTy).Contents (Elt F))⟩] concatenates_S1152x1152_S1152x1152_S1152x1152_S1152x3456_d1 : (⟨S1152x3456, .f32⟩ : BufTy).Contents (Elt F)) bitsLt_bf16_f32 := by
  after_results; rfl
open StableHlo in
theorem pre_v3 (V : Valuation τ sig (Elt F)) : after opsPre V (Proc.devRef .tc main_v3)
    = shapeCast S1x3456 (concatenate S3456 0 [⟨S1152, (V (Proc.devRef .tc main_arg3) : (⟨S1152, .f32⟩ : BufTy).Contents (Elt F))⟩, ⟨S1152, (V (Proc.devRef .tc main_arg7) : (⟨S1152, .f32⟩ : BufTy).Contents (Elt F))⟩, ⟨S1152, (V (Proc.devRef .tc main_arg11) : (⟨S1152, .f32⟩ : BufTy).Contents (Elt F))⟩] concatenates_S1152_S1152_S1152_S3456_d0 : (⟨S3456, .f32⟩ : BufTy).Contents (Elt F)) shapeCasts_S3456_S1x3456 := by
  after_results; rfl
open StableHlo in
theorem pre_v17 (V : Valuation τ sig (Elt F)) : after opsPre V (Proc.devRef .tc main_v17)
    = truncf .bf16 (Host.scatter scatter_S3456x16_S2_S1152x6_01_n_01_0 (fun _ b => b)
        (Host.scatter scatter_S3456x16_S2_S1152x3_01_n_01_0 (fun _ b => b)
          (Host.scatter scatter_S3456x16_S2_S1152x1_01_n_01_0 (fun _ b => b)
            (broadcastInDim S3456x16 ![] bcast_S_S3456x16 (constant S_ .f32 0x00000000#32)) (pairIx 0#32 0#32) (V (Proc.devRef .tc main_arg4)))
          (pairIx 1152#32 8#32) (V (Proc.devRef .tc main_arg8)))
        (pairIx 2304#32 1#32) (V (Proc.devRef .tc main_arg12)) : (⟨S3456x16, .f32⟩ : BufTy).Contents (Elt F)) bitsLt_bf16_f32 := by
  after_results
open StableHlo in
theorem pre_v21 (V : Valuation τ sig (Elt F)) : after opsPre V (Proc.devRef .tc main_v21)
    = shapeCast S1x16 (concatenate S16 0 [⟨S1, (V (Proc.devRef .tc main_arg5) : (⟨S1, .f32⟩ : BufTy).Contents (Elt F))⟩, ⟨S6, (V (Proc.devRef .tc main_arg13) : (⟨S6, .f32⟩ : BufTy).Contents (Elt F))⟩, ⟨S1, (broadcastInDim S1 ![] bcast_S_S1 (constant S_ .f32 0x00000000#32) : (⟨S1, .f32⟩ : BufTy).Contents (Elt F))⟩, ⟨S3, (V (Proc.devRef .tc main_arg9) : (⟨S3, .f32⟩ : BufTy).Contents (Elt F))⟩, ⟨S5, (broadcastInDim S5 ![] bcast_S_S5 (constant S_ .f32 0x00000000#32) : (⟨S5, .f32⟩ : BufTy).Contents (Elt F))⟩] concatenates_S1_S6_S1_S3_S5_S16_d0 : (⟨S16, .f32⟩ : BufTy).Contents (Elt F)) shapeCasts_S16_S1x16 := by
  after_results; rfl

/-- Rounding keeps a real value. -/
theorem truncf_at {s : Shape} (x : FVec Ideal s .f32) (h : FTy.bf16.bits < FTy.f32.bits) (i : s.Idx) : @Eq EReal (truncf .bf16 x h i) (x i) := rfl

/-- The hidden weights: head `b`'s are the columns from `1152 b`. -/
theorem v1_at (V : Valuation τ sig (Elt Ideal)) (b : Fin 3) (j u : Fin 1152) (k : Fin 3456) (hk : k.val = 1152 * b.val + u.val) :
    (after opsPre V (Proc.devRef .tc main_v1) (ix2 j k : S1152x3456.Idx) : EReal)
      = (![V (Proc.devRef .tc main_arg2), V (Proc.devRef .tc main_arg6), V (Proc.devRef .tc main_arg10)] : Fin 3 → S1152x1152.Idx → EReal) b (ix2 j u) := by
  rw [pre_v1]
  refine (truncf_at _ _ _).trans ?_
  refine (concatenate_apply_piece (α := EReal) (t := S1152x3456) 1 _ _ (ix2 j k) b.val (by exact b.isLt) S1152x1152
    ((![V (Proc.devRef .tc main_arg2), V (Proc.devRef .tc main_arg6), V (Proc.devRef .tc main_arg10)] : Fin 3 → S1152x1152.Idx → EReal) b) ?_ rfl (1152 * b.val) ?_ (ix2 j u) ?_ ?_)
  · match b with
    | 0 => rfl
    | 1 => rfl
    | 2 => rfl
  · match b with
    | 0 => rfl
    | 1 => rfl
    | 2 => rfl
  · intro (a : Fin 2) ha
    match a with
    | 0 => rfl
    | 1 => exact absurd rfl ha
  · exact hk.symm

/-- The hidden biases, likewise. -/
theorem v3_at (V : Valuation τ sig (Elt Ideal)) (b : Fin 3) (u : Fin 1152) (k : Fin 3456) (hk : k.val = 1152 * b.val + u.val) :
    (after opsPre V (Proc.devRef .tc main_v3) (ix2 0 k : S1x3456.Idx) : EReal)
      = (![V (Proc.devRef .tc main_arg3), V (Proc.devRef .tc main_arg7), V (Proc.devRef .tc main_arg11)] : Fin 3 → S1152.Idx → EReal) b (ix1 u) := by
  rw [pre_v3]
  refine (shapeCast_apply _ _ _ (ix1 k) ?_).trans ?_
  · rw [Shape.rowMajor_val_one, Shape.rowMajor_val_two]
    show k.val = 0 * 3456 + k.val
    rw [Nat.zero_mul, Nat.zero_add]
  refine (concatenate_apply_piece (α := EReal) (t := S3456) 0 _ _ (ix1 k) b.val (by exact b.isLt) S1152
    ((![V (Proc.devRef .tc main_arg3), V (Proc.devRef .tc main_arg7), V (Proc.devRef .tc main_arg11)] : Fin 3 → S1152.Idx → EReal) b) ?_ rfl (1152 * b.val) ?_ (ix1 u) ?_ ?_)
  · match b with
    | 0 => rfl
    | 1 => rfl
    | 2 => rfl
  · match b with
    | 0 => rfl
    | 1 => rfl
    | 2 => rfl
  · intro (a : Fin 1) ha
    match a with
    | 0 => exact absurd rfl ha
  · exact hk.symm

/-- The output weights: three blocks in a table of zeros. -/
theorem v17_at (V : Valuation τ sig (Elt Ideal)) (k : Fin 3456) (c : Fin 16) :
    (after opsPre V (Proc.devRef .tc main_v17) (ix2 k c : S3456x16.Idx) : EReal)
      = if h : (2304 ≤ k.val ∧ k.val < 2304 + 1152) ∧ (1 ≤ c.val ∧ c.val < 1 + 6) then
          (V (Proc.devRef .tc main_arg12) (ix2 ⟨k.val - 2304, by omega⟩ ⟨c.val - 1, by omega⟩ : S1152x6.Idx) : EReal)
        else if h : (1152 ≤ k.val ∧ k.val < 1152 + 1152) ∧ (8 ≤ c.val ∧ c.val < 8 + 3) then
          (V (Proc.devRef .tc main_arg8) (ix2 ⟨k.val - 1152, by omega⟩ ⟨c.val - 8, by omega⟩ : S1152x3.Idx) : EReal)
        else if h : (0 ≤ k.val ∧ k.val < 0 + 1152) ∧ (0 ≤ c.val ∧ c.val < 0 + 1) then
          (V (Proc.devRef .tc main_arg4) (ix2 ⟨k.val - 0, by omega⟩ ⟨c.val - 0, by omega⟩ : S1152x1.Idx) : EReal)
        else (0 : EReal) := by
  rw [pre_v17]
  refine (truncf_at _ _ _).trans ?_
  refine (scatter_block scatter_S3456x16_S2_S1152x6_01_n_01_0 rfl rfl rfl rfl _ (pairIx 2304#32 1#32) _ 2304 1 (by decide) (by decide) k c).trans ?_
  refine dite_congr rfl (fun _ => rfl) fun _ => ?_
  refine (scatter_block scatter_S3456x16_S2_S1152x3_01_n_01_0 rfl rfl rfl rfl _ (pairIx 1152#32 8#32) _ 1152 8 (by decide) (by decide) k c).trans ?_
  refine dite_congr rfl (fun _ => rfl) fun _ => ?_
  refine (scatter_block scatter_S3456x16_S2_S1152x1_01_n_01_0 rfl rfl rfl rfl _ (pairIx 0#32 0#32) _ 0 0 (by decide) (by decide) k c).trans ?_
  exact dite_congr rfl (fun _ => rfl) fun _ => Ideal.ofBits_zero_f32

/-- The output biases: column 0 is the energy's. -/
theorem v21_energy (V : Valuation τ sig (Elt Ideal)) (c : Fin 16) (hc : c.val = 0) :
    (after opsPre V (Proc.devRef .tc main_v21) (ix2 0 c : S1x16.Idx) : EReal) = (V (Proc.devRef .tc main_arg5) (ix1 0 : S1.Idx) : EReal) := by
  rw [pre_v21]
  refine (shapeCast_apply _ _ _ (ix1 c) ?_).trans ?_
  · rw [Shape.rowMajor_val_one, Shape.rowMajor_val_two]
    show c.val = 0 * 16 + c.val
    omega
  refine concatenate_apply_piece (α := EReal) (t := S16) 0 _ _ (ix1 c) 0 (by show 0 < 5; decide) S1 _ rfl rfl 0 rfl (ix1 0) ?_ hc.symm
  intro (a : Fin 1) ha
  match a with
  | 0 => exact absurd rfl ha

/-- Columns 1 to 6 are the stress's. -/
theorem v21_stress (V : Valuation τ sig (Elt Ideal)) (c : Fin 16) (s : Fin 6) (hc : c.val = 1 + s.val) :
    (after opsPre V (Proc.devRef .tc main_v21) (ix2 0 c : S1x16.Idx) : EReal) = (V (Proc.devRef .tc main_arg13) (ix1 s : S6.Idx) : EReal) := by
  rw [pre_v21]
  refine (shapeCast_apply _ _ _ (ix1 c) ?_).trans ?_
  · rw [Shape.rowMajor_val_one, Shape.rowMajor_val_two]
    show c.val = 0 * 16 + c.val
    omega
  refine concatenate_apply_piece (α := EReal) (t := S16) 0 _ _ (ix1 c) 1 (by show 1 < 5; decide) S6 _ rfl rfl 1 rfl (ix1 s) ?_ hc.symm
  intro (a : Fin 1) ha
  match a with
  | 0 => exact absurd rfl ha

/-- Columns 8 to 10 are the forces'. -/
theorem v21_forces (V : Valuation τ sig (Elt Ideal)) (c : Fin 16) (f : Fin 3) (hc : c.val = 8 + f.val) :
    (after opsPre V (Proc.devRef .tc main_v21) (ix2 0 c : S1x16.Idx) : EReal) = (V (Proc.devRef .tc main_arg9) (ix1 f : S3.Idx) : EReal) := by
  rw [pre_v21]
  refine (shapeCast_apply _ _ _ (ix1 c) ?_).trans ?_
  · rw [Shape.rowMajor_val_one, Shape.rowMajor_val_two]
    show c.val = 0 * 16 + c.val
    omega
  refine concatenate_apply_piece (α := EReal) (t := S16) 0 _ _ (ix1 c) 3 (by show 3 < 5; decide) S3 _ rfl rfl 8 rfl (ix1 f) ?_ hc.symm
  intro (a : Fin 1) ha
  match a with
  | 0 => exact absurd rfl ha

end Cert.Proof.Seg
end
-- ==== Proof.Values.lean ====
/-
  The kernel's three results over the reals: the forces are their head's rows, the energies and the stresses are at each
  segment the sums of their heads' rows whose index names the segment.
-/
module

public import proofs.«01_k».proof.Proof.Cells
public import proofs.«01_k».proof.Proof.Weights

@[expose] public section

noncomputable section

namespace Cert.Proof.Seg

open Cert.KernelIdeal Cert.KernelIdeal.Gen
open Idealize.ShloMosaic Idealize.ShloMosaic.ValueIdx Idealize.ShloMosaic.Routing
open Idealize.ShloMosaic.StableHlo (after)
open scoped BigOperators

/-- A head's row from the node table, the head's weights and biases, and the column of its output. -/
def headRow {K : ℕ} (A : S50000x1152.Idx → EReal) (W1 : S1152x1152.Idx → EReal) (B1 : S1152.Idx → EReal) (W2 : (shape2 1152 K).Idx → EReal)
    (B2 : (shape1 K).Idx → EReal) (n : Fin 50000) (c : Fin K) : EReal :=
  head (fun j => A (ix2 n j)) W1 B1 (fun k => W2 (ix2 k c)) (B2 (ix1 c))

/-- The sum of the rows whose index names the segment. -/
def segSum (I : S50000.Idx → BitVec 32) (f : Fin 50000 → EReal) (s : Fin 512) : EReal :=
  ∑ n : Fin 50000, if (I (ix1 n)).toNat = s.val then f n else 0

/-! ## The heads' columns of the first call -/

section Columns

variable (V : Valuation τ sig (Elt Ideal)) {n : Fin 50000} {v : Ideal .f32}

theorem nodes_kept : after opsPre V (Proc.devRef .tc main_arg0) = V (Proc.devRef .tc main_arg0) := opsPre_other V (by decide)

theorem col_energy (h : At0 (F := Ideal) (after opsPre V) n.val 0 v) :
    (v : EReal) = headRow (K := 1) (V (Proc.devRef .tc main_arg0)) (V (Proc.devRef .tc main_arg2)) (V (Proc.devRef .tc main_arg3)) (V (Proc.devRef .tc main_arg4)) (V (Proc.devRef .tc main_arg5)) n 0 := by
  refine (at0_head h 0 (V (Proc.devRef .tc main_arg2)) (V (Proc.devRef .tc main_arg3)) (fun k => V (Proc.devRef .tc main_arg4) (ix2 k 0 : S1152x1.Idx)) (V (Proc.devRef .tc main_arg5) (ix1 0 : S1.Idx))
    (fun j u k hk => v1_at V 0 j u k hk) (fun u k hk => v3_at V 0 u k hk) (fun u k c' hc hk => ?_) (fun k c' hc hk => ?_) (fun c' hc => v21_energy V c' hc)).trans ?_
  · have hu := u.isLt
    have hk' : k.val = u.val := by rw [hk]; show 1152 * 0 + u.val = u.val; omega
    refine (v17_at V k c').trans ?_
    rw [dif_neg (by omega), dif_neg (by omega), dif_pos (by omega)]
    refine congrArg (V (Proc.devRef .tc main_arg4)) (congrArg₂ (ix2 (n0 := 1152) (n1 := 1)) (Fin.ext ?_) (Fin.ext ?_))
    · show k.val - 0 = u.val; omega
    · show c'.val - 0 = 0; omega
  · have hk' : k.val / 1152 ≠ 0 := hk
    refine (v17_at V k c').trans ?_
    rw [dif_neg (by omega), dif_neg (by omega), dif_neg (by omega)]
  · rw [dif_pos n.isLt, nodes_kept]
    rfl

theorem col_stress (s : Fin 6) (h : At0 (F := Ideal) (after opsPre V) n.val (1 + s.val) v) :
    (v : EReal) = headRow (K := 6) (V (Proc.devRef .tc main_arg0)) (V (Proc.devRef .tc main_arg10)) (V (Proc.devRef .tc main_arg11)) (V (Proc.devRef .tc main_arg12)) (V (Proc.devRef .tc main_arg13)) n s := by
  have hs := s.isLt
  refine (at0_head h 2 (V (Proc.devRef .tc main_arg10)) (V (Proc.devRef .tc main_arg11)) (fun k => V (Proc.devRef .tc main_arg12) (ix2 k s : S1152x6.Idx)) (V (Proc.devRef .tc main_arg13) (ix1 s : S6.Idx))
    (fun j u k hk => v1_at V 2 j u k hk) (fun u k hk => v3_at V 2 u k hk) (fun u k c' hc hk => ?_) (fun k c' hc hk => ?_) (fun c' hc => v21_stress V c' s hc)).trans ?_
  · have hu := u.isLt
    have hk' : k.val = 2304 + u.val := hk
    refine (v17_at V k c').trans ?_
    rw [dif_pos (by omega)]
    refine congrArg (V (Proc.devRef .tc main_arg12)) (congrArg₂ (ix2 (n0 := 1152) (n1 := 6)) (Fin.ext ?_) (Fin.ext ?_))
    · show k.val - 2304 = u.val; omega
    · show c'.val - 1 = s.val; omega
  · have hk' : k.val / 1152 ≠ 2 := hk
    have hk3 := k.isLt
    refine (v17_at V k c').trans ?_
    rw [dif_neg (by omega), dif_neg (by omega), dif_neg (by omega)]
  · rw [dif_pos n.isLt, nodes_kept]
    rfl

theorem col_forces (f : Fin 3) (h : At0 (F := Ideal) (after opsPre V) n.val (8 + f.val) v) :
    (v : EReal) = headRow (K := 3) (V (Proc.devRef .tc main_arg0)) (V (Proc.devRef .tc main_arg6)) (V (Proc.devRef .tc main_arg7)) (V (Proc.devRef .tc main_arg8)) (V (Proc.devRef .tc main_arg9)) n f := by
  have hf := f.isLt
  refine (at0_head h 1 (V (Proc.devRef .tc main_arg6)) (V (Proc.devRef .tc main_arg7)) (fun k => V (Proc.devRef .tc main_arg8) (ix2 k f : S1152x3.Idx)) (V (Proc.devRef .tc main_arg9) (ix1 f : S3.Idx))
    (fun j u k hk => v1_at V 1 j u k hk) (fun u k hk => v3_at V 1 u k hk) (fun u k c' hc hk => ?_) (fun k c' hc hk => ?_) (fun c' hc => v21_forces V c' f hc)).trans ?_
  · have hu := u.isLt
    have hk' : k.val = 1152 + u.val := hk
    refine (v17_at V k c').trans ?_
    rw [dif_neg (by omega), dif_pos (by omega)]
    refine congrArg (V (Proc.devRef .tc main_arg8)) (congrArg₂ (ix2 (n0 := 1152) (n1 := 3)) (Fin.ext ?_) (Fin.ext ?_))
    · show k.val - 1152 = u.val; omega
    · show c'.val - 8 = f.val; omega
  · have hk' : k.val / 1152 ≠ 1 := hk
    refine (v17_at V k c').trans ?_
    rw [dif_neg (by omega), dif_neg (by omega), dif_neg (by omega)]
  · rw [dif_pos n.isLt, nodes_kept]
    rfl

end Columns

/-! ## The results -/

/-- The reduced row seen as a table of segments and columns. -/
theorem table_at (x : S1x4096.Idx → EReal) (s : Fin 512) (c : Fin 8) (j : Fin 4096) (hj : j.val = 8 * s.val + c.val) :
    shapeCast S512x8 x shapeCasts_S1x4096_S512x8 (ix2 s c) = x (ix2 0 j) := by
  refine shapeCast_apply x _ _ _ ?_
  rw [Shape.rowMajor_val_two, Shape.rowMajor_val_two]
  show 0 * 4096 + j.val = s.val * 8 + c.val
  rw [Nat.zero_mul, Nat.zero_add]
  omega

variable (m : (ℓ : Loc nD τ sig) → Buf (Elt Ideal) ℓ)

variable {m} {d : Dev nD} {V7 : Valuation τ sig (Elt Ideal)}

theorem out_energy (h : Out m d V7) (hin : ∀ j : S50000.Idx, (m ((SparseCore.T d).loc main_arg1) j : BitVec 32).toNat < 512) (s : Fin 512) :
    (V7 (Proc.devRef .tc main_v29) (ix1 s : S512.Idx) : EReal) = segSum (m ((SparseCore.T d).loc main_arg1))
      (fun n => headRow (K := 1) (m ((SparseCore.T d).loc main_arg0)) (m ((SparseCore.T d).loc main_arg2)) (m ((SparseCore.T d).loc main_arg3)) (m ((SparseCore.T d).loc main_arg4)) (m ((SparseCore.T d).loc main_arg5)) n 0) s := by
  obtain ⟨V2, V4, V6, h2, -, hr, h6, rfl⟩ := h
  have hs := s.isLt
  rw [post_v29]
  refine (cast21 (a := 512) (b := 1) (n := 512) _ _ s 0 s (by show s.val = s.val * 1 + 0; omega)).trans ?_
  refine (slice_col0 (a := 512) (b := 8) _ _ s (by decide)).trans ?_
  refine (table_at _ s 0 ⟨8 * s.val, by omega⟩ rfl).trans ?_
  refine (left_red h6 _).trans ((red_sum m d hin _ hr s 0 _ rfl).trans ?_)
  unfold segSum
  refine Finset.sum_congr rfl fun n _ => if_congr Iff.rfl ?_ rfl
  have h0 : At0 (F := Ideal) (V1 m d) n.val 0 (V2 (Proc.devRef .tc main_v22_0) (ix2 ⟨n.val, by omega⟩ 0 : S50176x8.Idx)) := left_energy h2 (ix2 ⟨n.val, by omega⟩ 0)
  exact (at0_cell h0).symm.trans (col_energy (fun b => m (d, b)) h0)

theorem out_stress (h : Out m d V7) (hin : ∀ j : S50000.Idx, (m ((SparseCore.T d).loc main_arg1) j : BitVec 32).toNat < 512) (s : Fin 512) (q : Fin 6) :
    (V7 (Proc.devRef .tc main_v30) (ix2 s q : S512x6.Idx) : EReal) = segSum (m ((SparseCore.T d).loc main_arg1))
      (fun n => headRow (K := 6) (m ((SparseCore.T d).loc main_arg0)) (m ((SparseCore.T d).loc main_arg10)) (m ((SparseCore.T d).loc main_arg11)) (m ((SparseCore.T d).loc main_arg12)) (m ((SparseCore.T d).loc main_arg13)) n q) s := by
  obtain ⟨V2, V4, V6, h2, -, hr, h6, rfl⟩ := h
  have hs := s.isLt
  have hq := q.isLt
  rw [post_v30]
  refine (extractStridedSlice_apply _ _ _ (ix2 s q) (ix2 s ⟨1 + q.val, by omega⟩) fun (a : Fin 2) => ?_).trans ?_
  · match a with
    | 0 => exact (Nat.zero_add _).symm
    | 1 => rfl
  refine (table_at _ s ⟨1 + q.val, by omega⟩ ⟨8 * s.val + (1 + q.val), by omega⟩ rfl).trans ?_
  refine (left_red h6 _).trans ((red_sum m d hin _ hr s ⟨1 + q.val, by omega⟩ _ rfl).trans ?_)
  unfold segSum
  refine Finset.sum_congr rfl fun n _ => if_congr Iff.rfl ?_ rfl
  have h0 : At0 (F := Ideal) (V1 m d) n.val (1 + q.val) (V2 (Proc.devRef .tc main_v22_0) (ix2 ⟨n.val, by omega⟩ ⟨1 + q.val, by omega⟩ : S50176x8.Idx)) :=
    left_energy h2 (ix2 ⟨n.val, by omega⟩ ⟨1 + q.val, by omega⟩)
  exact (at0_cell h0).symm.trans (col_stress (fun b => m (d, b)) q h0)

theorem out_forces (h : Out m d V7) (n : Fin 50000) (f : Fin 3) :
    (V7 (Proc.devRef .tc main_v22_1) (ix2 n f : S50000x3.Idx) : EReal)
      = headRow (K := 3) (m ((SparseCore.T d).loc main_arg0)) (m ((SparseCore.T d).loc main_arg6)) (m ((SparseCore.T d).loc main_arg7)) (m ((SparseCore.T d).loc main_arg8)) (m ((SparseCore.T d).loc main_arg9)) n f := by
  obtain ⟨V2, V4, V6, h2, h4, -, h6, rfl⟩ := h
  rw [opsPost_other _ (by decide), left_other h6 (by decide)]
  beta_reduce
  rw [h4 main_v22_1 (by decide) (by decide), opsMid_other _ (by decide)]
  exact col_forces (fun b => m (d, b)) f (left_forces h2 (ix2 n f))

end Cert.Proof.Seg
end
-- ==== Proof.Ref.lean ====
/-
  The reference over the reals, read at one element: each head's rows, and each segment's sum over the rows that name it.
-/
module

public import proofs.«01_k».proof.Proof.Payload
public import proofs.«01_k».proof.Proof.Gen.ReferenceIdeal
public import Idealize.ShloMosaic.Lib.StackMember
public import Idealize.ShloMosaic.Lib.Routing.OpsPair
public import Idealize.ShloMosaic.Lib.Routing.Ops

@[expose] public section

noncomputable section

namespace Cert.Proof.Seg

open Cert.ReferenceIdeal
open Idealize.ShloMosaic Idealize.ShloMosaic.ValueIdx Idealize.ShloMosaic.Routing Idealize.ShloMosaic.StackMember
open scoped BigOperators

/-- A head of the reference at a row and a column. -/
theorem ref_head {K : ℕ} (A : (shape2 50000 1152).Idx → EReal) (W1 : (shape2 1152 1152).Idx → EReal) (B1 : (shape1 1152).Idx → EReal)
    (W2 : (shape2 1152 K).Idx → EReal) (B2 : (shape1 K).Idx → EReal)
    (h₁ : (shape1 1152).BroadcastsInDim (shape2 1 1152) (![1] : Fin 1 → Fin (shape2 1 1152).rank))
    (h₂ : (shape2 1 1152).BroadcastsInDim (shape2 50000 1152) (![0, 1] : Fin 2 → Fin (shape2 50000 1152).rank))
    (h₃ : (shape1 K).BroadcastsInDim (shape2 1 K) (![1] : Fin 1 → Fin (shape2 1 K).rank))
    (h₄ : (shape2 1 K).BroadcastsInDim (shape2 50000 K) (![0, 1] : Fin 2 → Fin (shape2 50000 K).rank)) (n : Fin 50000) (c : Fin K) :
    (addf (F := Ideal) (φ := .f32) (Host.dotGeneral (φ₁ := .f32) (φ₂ := .f32) (DotDims.plain 50000 1152 K) none
        (Host.tanh (addf (Host.dotGeneral (φ₁ := .f32) (φ₂ := .f32) (DotDims.plain 50000 1152 1152) none A W1)
          (broadcastInDim (shape2 50000 1152) ![0, 1] h₂ (broadcastInDim (shape2 1 1152) ![1] h₁ B1)))) W2)
      (broadcastInDim (shape2 50000 K) ![0, 1] h₄ (broadcastInDim (shape2 1 K) ![1] h₃ B2)) (ix2 n c) : EReal)
      = head (fun j => A (ix2 n j)) W1 B1 (fun k => W2 (ix2 k c)) (B2 (ix1 c)) := by
  show (Host.dotGeneral (F := Ideal) (φ₁ := .f32) (φ₂ := .f32) (DotDims.plain 50000 1152 K) none _ W2 (ix2 n c) : EReal) + broadcastInDim (shape2 50000 K) ![0, 1] h₄ (broadcastInDim (shape2 1 K) ![1] h₃ B2) (ix2 n c) = _
  rw [bcCols, dotGeneral_plain_apply]
  unfold head
  refine congrArg (· + _) (Finset.sum_congr rfl fun k _ => congrArg (· * _) ?_)
  show Ideal.tanh ((Host.dotGeneral (F := Ideal) (φ₁ := .f32) (φ₂ := .f32) (DotDims.plain 50000 1152 1152) none A W1 (ix2 n k) : EReal) + broadcastInDim (shape2 50000 1152) ![0, 1] h₂ (broadcastInDim (shape2 1 1152) ![1] h₁ B1) (ix2 n k)) = _
  rw [bcCols, dotGeneral_plain_apply]

/-- A row of the energies lands at the segment its index names. -/
theorem lands_energy (idx : IVec S50000x1 32) (n : Fin 50000) (s : Fin 512) :
    scatter_S512_S50000x1_S50000_n_0_0_1.resultIdx? (ix1 n) idx = some (ix1 s) ↔ (idx (ix2 n 0)).toInt = (s.val : ℤ) := by
  rw [resultIdx?_ix1]
  have h0 : scatter_S512_S50000x1_S50000_n_0_0_1.window (ix1 n) 0 = 0 := rfl
  have h1 : scatter_S512_S50000x1_S50000_n_0_0_1.start (ix1 n) idx 0 = (idx (ix2 n 0)).toInt := by
    unfold ScatterDims.start
    rw [dif_pos (show (0 : Fin 1) ∈ scatter_S512_S50000x1_S50000_n_0_0_1.scatterDimsToOperandDims from List.mem_singleton.mpr rfl)]
    refine congrArg (fun i => (idx i).toInt) (funext fun (a : Fin 2) => Fin.ext ?_)
    match a with
    | 0 => rfl
    | 1 => rfl
  rw [h0, h1]
  omega

/-- A row of the stresses lands at the segment its index names, each column in its own. -/
theorem lands_stress (idx : IVec S50000x1 32) (n : Fin 50000) (q : Fin 6) (s : Fin 512) (c : Fin 6) :
    scatter_S512x6_S50000x1_S50000x6_1_0_0_1.resultIdx? (ix2 n q) idx = some (ix2 s c) ↔ (idx (ix2 n 0)).toInt = (s.val : ℤ) ∧ q = c := by
  rw [resultIdx?_ix2]
  have h0 : scatter_S512x6_S50000x1_S50000x6_1_0_0_1.window (ix2 n q) 0 = 0 := rfl
  have h1 : scatter_S512x6_S50000x1_S50000x6_1_0_0_1.window (ix2 n q) 1 = q.val := rfl
  have h2 : scatter_S512x6_S50000x1_S50000x6_1_0_0_1.start (ix2 n q) idx 0 = (idx (ix2 n 0)).toInt := by
    unfold ScatterDims.start
    rw [dif_pos (show (0 : Fin 2) ∈ scatter_S512x6_S50000x1_S50000x6_1_0_0_1.scatterDimsToOperandDims from List.mem_singleton.mpr rfl)]
    refine congrArg (fun i => (idx i).toInt) (funext fun (a : Fin 2) => Fin.ext ?_)
    match a with
    | 0 => rfl
    | 1 => rfl
  have h3 : scatter_S512x6_S50000x1_S50000x6_1_0_0_1.start (ix2 n q) idx 1 = 0 := rfl
  rw [h0, h1, h2, h3, Fin.ext_iff]
  omega

/-- The segments' energies: at each segment the sum of the rows that name it. -/
theorem ref_energy (h : (shape0 : Shape).BroadcastsInDim S512 ![]) (idx : IVec S50000x1 32) (upd : S50000.Idx → EReal) (s : Fin 512) :
    (Host.scatterAdd (F := Ideal) (φ := .f32) scatter_S512_S50000x1_S50000_n_0_0_1 (broadcastInDim S512 ![] h (constant S_ .f32 0x00000000#32)) idx upd (ix1 s) : EReal)
      = ∑ n : Fin 50000, if (idx (ix2 n 0)).toInt = (s.val : ℤ) then upd (ix1 n) else 0 := by
  show (FloatOps.ofBits (F := Ideal) .f32 0x00000000#32 : EReal) + ∑ k ∈ Finset.univ.filter (fun k => scatter_S512_S50000x1_S50000_n_0_0_1.resultIdx? k idx = some (ix1 s)), upd k = _
  rw [show (FloatOps.ofBits (F := Ideal) .f32 0x00000000#32 : EReal) = 0 from Ideal.ofBits_zero_f32, zero_add, Finset.sum_filter]
  let e : Fin 50000 ≃ S50000.Idx := ⟨fun n => ix1 n, fun i => i 0, fun _ => rfl, fun i => (eq_ix1 i).symm⟩
  rw [← Equiv.sum_comp e]
  exact Finset.sum_congr rfl fun n _ => if_congr (lands_energy idx n s) rfl rfl

/-- The segments' stresses, likewise for each column. -/
theorem ref_stress (h : (shape0 : Shape).BroadcastsInDim S512x6 ![]) (idx : IVec S50000x1 32) (upd : S50000x6.Idx → EReal) (s : Fin 512) (c : Fin 6) :
    (Host.scatterAdd (F := Ideal) (φ := .f32) scatter_S512x6_S50000x1_S50000x6_1_0_0_1 (broadcastInDim S512x6 ![] h (constant S_ .f32 0x00000000#32)) idx upd (ix2 s c) : EReal)
      = ∑ n : Fin 50000, if (idx (ix2 n 0)).toInt = (s.val : ℤ) then upd (ix2 n c) else 0 := by
  show (FloatOps.ofBits (F := Ideal) .f32 0x00000000#32 : EReal) + ∑ k ∈ Finset.univ.filter (fun k => scatter_S512x6_S50000x1_S50000x6_1_0_0_1.resultIdx? k idx = some (ix2 s c)), upd k = _
  rw [show (FloatOps.ofBits (F := Ideal) .f32 0x00000000#32 : EReal) = 0 from Ideal.ofBits_zero_f32, zero_add, Finset.sum_filter]
  refine (sum_idx2 (n0 := 50000) (n1 := 6) _).trans (Finset.sum_congr rfl fun n _ => ?_)
  rw [Finset.sum_eq_single c (fun q _ hq => if_neg fun k => hq ((lands_stress idx n q s c).mp k).2) (fun k => absurd (Finset.mem_univ _) k)]
  exact if_congr ((lands_stress idx n c s c).trans (and_iff_left rfl)) rfl rfl

end Cert.Proof.Seg
end
-- ==== Proof.Equal.lean ====
/-
  The kernel's results are the reference's over the reals: both are the same heads' rows, and the same sums of them.
-/
module

public import proofs.«01_k».proof.Proof.Values
public import proofs.«01_k».proof.Proof.Ref
public import proofs.«01_k».proof.Proof.Frames

@[expose] public section

noncomputable section

namespace Cert.Proof.Seg

open Idealize.ShloMosaic Idealize.ShloMosaic.ValueIdx Idealize.ShloMosaic.Routing Idealize.SL.Sem
open scoped BigOperators

/-! ## The reference's results -/

section Reference
open Cert.ReferenceIdeal Cert.ReferenceIdeal.Gen

/-- An index in range names a segment as a number with a sign as it does as one without. -/
theorem names_segment (x : BitVec 32) (hx : x.toNat < 512) (s : Fin 512) : x.toInt = (s.val : ℤ) ↔ x.toNat = s.val := by
  rw [BitVec.toInt_eq_toNat_of_lt (by omega)]
  exact Int.natCast_inj

variable (A : S50000x1152.Idx → EReal) (I : S50000.Idx → BitVec 32) (hI : ∀ j, (I j).toNat < 512) (W1 : S1152x1152.Idx → EReal) (B1 : S1152.Idx → EReal)

theorem ref_out_forces (W2 : S1152x3.Idx → EReal) (B2 : S3.Idx → EReal) :
    (addf (F := Ideal) (φ := .f32) (Host.dotGeneral (φ₁ := .f32) (φ₂ := .f32) dot_S50000x1152_S1152x3_S50000x3_1_0_0_1_n_n none
        (Host.tanh (addf (Host.dotGeneral (φ₁ := .f32) (φ₂ := .f32) dot_S50000x1152_S1152x1152_S50000x1152_1_0_0_1_n_n none A W1)
          (broadcastInDim S50000x1152 ![0, 1] bcast_S1x1152_S50000x1152_0_1 (broadcastInDim S1x1152 ![1] bcast_S1152_S1x1152_1 B1)))) W2)
      (broadcastInDim S50000x3 ![0, 1] bcast_S1x3_S50000x3_0_1 (broadcastInDim S1x3 ![1] bcast_S3_S1x3_1 B2)) : S50000x3.Idx → EReal)
      = fun i => headRow (K := 3) A W1 B1 W2 B2 (i 0) (i 1) := by
  funext i
  obtain ⟨n, c, rfl⟩ : ∃ (n : Fin 50000) (c : Fin 3), i = ix2 n c := ⟨i 0, i 1, eq_ix2 i⟩
  exact ref_head (K := 3) A W1 B1 W2 B2 _ _ _ _ n c

include hI in
theorem ref_out_energy (W2 : S1152x1.Idx → EReal) (B2 : S1.Idx → EReal) :
    (Host.scatterAdd (F := Ideal) (φ := .f32) scatter_S512_S50000x1_S50000_n_0_0_1 (broadcastInDim S512 ![] bcast_S_S512 (constant S_ .f32 0x00000000#32))
      (broadcastInDim S50000x1 ![0] bcast_S50000_S50000x1_0 I)
      (shapeCast S50000 (addf (F := Ideal) (φ := .f32) (Host.dotGeneral (φ₁ := .f32) (φ₂ := .f32) dot_S50000x1152_S1152x1_S50000x1_1_0_0_1_n_n none
        (Host.tanh (addf (Host.dotGeneral (φ₁ := .f32) (φ₂ := .f32) dot_S50000x1152_S1152x1152_S50000x1152_1_0_0_1_n_n none A W1)
          (broadcastInDim S50000x1152 ![0, 1] bcast_S1x1152_S50000x1152_0_1 (broadcastInDim S1x1152 ![1] bcast_S1152_S1x1152_1 B1)))) W2)
      (broadcastInDim S50000x1 ![0, 1] bcast_S1x1_S50000x1_0_1 (broadcastInDim S1x1 ![1] bcast_S1_S1x1_1 B2))) shapeCasts_S50000x1_S50000) : S512.Idx → EReal)
      = fun i => segSum I (fun n => headRow (K := 1) A W1 B1 W2 B2 n 0) (i 0) := by
  funext i
  obtain ⟨s, rfl⟩ : ∃ s : Fin 512, i = ix1 s := ⟨i 0, eq_ix1 i⟩
  refine (ref_energy _ _ _ s).trans (Finset.sum_congr rfl fun n _ => ?_)
  refine if_congr ?_ ?_ rfl
  · rw [bcCol (n := 50000)]
    exact names_segment _ (hI _) s
  · refine (cast21 (a := 50000) (b := 1) (n := 50000) _ _ n 0 n (by show n.val = n.val * 1 + 0; omega)).trans ?_
    exact ref_head (K := 1) A W1 B1 W2 B2 _ _ _ _ n 0

include hI in
theorem ref_out_stress (W2 : S1152x6.Idx → EReal) (B2 : S6.Idx → EReal) :
    (Host.scatterAdd (F := Ideal) (φ := .f32) scatter_S512x6_S50000x1_S50000x6_1_0_0_1 (broadcastInDim S512x6 ![] bcast_S_S512x6 (constant S_ .f32 0x00000000#32))
      (broadcastInDim S50000x1 ![0] bcast_S50000_S50000x1_0 I)
      (addf (F := Ideal) (φ := .f32) (Host.dotGeneral (φ₁ := .f32) (φ₂ := .f32) dot_S50000x1152_S1152x6_S50000x6_1_0_0_1_n_n none
        (Host.tanh (addf (Host.dotGeneral (φ₁ := .f32) (φ₂ := .f32) dot_S50000x1152_S1152x1152_S50000x1152_1_0_0_1_n_n none A W1)
          (broadcastInDim S50000x1152 ![0, 1] bcast_S1x1152_S50000x1152_0_1 (broadcastInDim S1x1152 ![1] bcast_S1152_S1x1152_1 B1)))) W2)
      (broadcastInDim S50000x6 ![0, 1] bcast_S1x6_S50000x6_0_1 (broadcastInDim S1x6 ![1] bcast_S6_S1x6_1 B2))) : S512x6.Idx → EReal)
      = fun i => segSum I (fun n => headRow (K := 6) A W1 B1 W2 B2 n (i 1)) (i 0) := by
  funext i
  obtain ⟨s, c, rfl⟩ : ∃ (s : Fin 512) (c : Fin 6), i = ix2 s c := ⟨i 0, i 1, eq_ix2 i⟩
  refine (ref_stress _ _ _ s c).trans (Finset.sum_congr rfl fun n _ => ?_)
  refine if_congr ?_ ?_ rfl
  · rw [bcCol (n := 50000)]
    exact names_segment _ (hI _) s
  · exact ref_head (K := 6) A W1 B1 W2 B2 _ _ _ _ n c

end Reference

/-! ## The two runs -/

open Cert.KernelIdeal in
/-- The kernel's results are the reference's. -/
theorem algebraic : Cert.algebraic_KernelIdeal_ReferenceIdeal := by
  intro m g m' g' hpre hargs
  have hin := inRange_ideal m hpre
  refine ⟨fun c => (fun i => headRow (K := 3) (m ((c.tc : Thread nD τ).loc main_arg0)) (m ((c.tc : Thread nD τ).loc main_arg6)) (m ((c.tc : Thread nD τ).loc main_arg7))
      (m ((c.tc : Thread nD τ).loc main_arg8)) (m ((c.tc : Thread nD τ).loc main_arg9)) (i 0) (i 1) : S50000x3.Idx → EReal),
    fun c => (fun i => segSum (m ((c.tc : Thread nD τ).loc main_arg1)) (fun n => headRow (K := 1) (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)) n 0) (i 0) : S512.Idx → EReal),
    fun c => (fun i => segSum (m ((c.tc : Thread nD τ).loc main_arg1)) (fun n => headRow (K := 6) (m ((c.tc : Thread nD τ).loc main_arg0)) (m ((c.tc : Thread nD τ).loc main_arg10))
      (m ((c.tc : Thread nD τ).loc main_arg11)) (m ((c.tc : Thread nD τ).loc main_arg12)) (m ((c.tc : Thread nD τ).loc main_arg13)) n (i 1)) (i 0) : S512x6.Idx → EReal), ?_, ?_⟩
  · refine (θ_run Cert.KernelIdeal.defs _ _).mono (fun r h c => ⟨?_, ?_, ?_, args_kept m h c⟩) (run_of_inRange m g hin)
    · obtain ⟨V7, ho, e⟩ := h.1 c
      refine (e main_v22_1 rfl).trans (funext fun (i : S50000x3.Idx) => ?_)
      obtain ⟨n, f, rfl⟩ : ∃ (n : Fin 50000) (f : Fin 3), i = ix2 n f := ⟨i 0, i 1, eq_ix2 i⟩
      exact out_forces ho n f
    · obtain ⟨V7, ho, e⟩ := h.1 c
      refine (e main_v29 rfl).trans (funext fun (i : S512.Idx) => ?_)
      obtain ⟨s, rfl⟩ : ∃ s : Fin 512, i = ix1 s := ⟨i 0, eq_ix1 i⟩
      exact out_energy ho (hin c) s
    · obtain ⟨V7, ho, e⟩ := h.1 c
      refine (e main_v30 rfl).trans (funext fun (i : S512x6.Idx) => ?_)
      obtain ⟨s, q, rfl⟩ : ∃ (s : Fin 512) (q : Fin 6), i = ix2 s q := ⟨i 0, i 1, eq_ix2 i⟩
      exact out_stress ho (hin c) s q
  · refine (θ_run Cert.ReferenceIdeal.defs _ _).mono (fun r h c => ?_) (Cert.ReferenceIdeal.Value.run (F := Ideal) m' g')
    obtain ⟨e0, e1, e2, e3, e4, e5, e6, e7, e8, e9, e10, e11, e12, e13⟩ := hargs c
    have hI : ∀ j : S50000.Idx, (m' ((c.tc : Thread Cert.ReferenceIdeal.nD Cert.ReferenceIdeal.τ).loc Cert.ReferenceIdeal.main_arg1) j : BitVec 32).toNat < 512 := fun j => by
      rw [e1]; exact hin c j
    refine ⟨(h c).1.trans ((ref_out_forces _ _ _ _ _).trans ?_), (h c).2.1.trans ((ref_out_energy _ _ hI _ _ _ _).trans ?_),
      (h c).2.2.1.trans ((ref_out_stress _ _ hI _ _ _ _).trans ?_), (h c).2.2.2⟩
    · rw [e0, e6, e7, e8, e9]
    · rw [e0, e1, e2, e3, e4, e5]
    · rw [e0, e1, e10, e11, e12, e13]

end Cert.Proof.Seg
end
-- ==== Proof.lean ====
/- The proof of the certificate's claim: the frames of the kernel, of its ideal reading and of the reference, that the two
   readings of the kernel are one program, and that the kernel's results are the reference's over the reals. -/
module

public import proofs.«01_k».proof.Defs
public import proofs.«01_k».proof.Proof.Same
public import proofs.«01_k».proof.Proof.Equal

@[expose] public section

noncomputable section

namespace Cert.Proof

open Idealize.ShloMosaic Idealize.SL.Sem

/-- The claim. -/
theorem claim : Cert.Claim := ⟨Cert.Kernel.Gen.facts, Cert.KernelIdeal.Gen.facts, Cert.ReferenceIdeal.Gen.facts, Cert.Pre_in_range.Gen.facts,
  Seg.frame_words, Seg.frame_ideal, Seg.frame_reference, (fun m ρ _ => Seg.frame_reference m ρ trivial), trivial, Seg.algebraic⟩

end Cert.Proof

end
